-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S_ : Shape := ⟨0, ![]⟩
abbrev S1024x8192 : Shape := ⟨2, ![1024, 8192]⟩
abbrev S2048x2048 : Shape := ⟨2, ![2048, 2048]⟩
abbrev S512x8192 : Shape := ⟨2, ![512, 8192]⟩
abbrev S2048x256 : Shape := ⟨2, ![2048, 256]⟩
abbrev S8192x256 : Shape := ⟨2, ![8192, 256]⟩
abbrev S2 : Shape := ⟨1, ![2]⟩
abbrev S8 : Shape := ⟨1, ![8]⟩
abbrev S1 : Shape := ⟨1, ![1]⟩
abbrev S256x8192 : Shape := ⟨2, ![256, 8192]⟩
abbrev S1024x256 : Shape := ⟨2, ![1024, 256]⟩

abbrev nBuf : Space → Nat
  | .hbm => 20
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024x8192, .f32⟩
  | .hbm, ⟨17, _⟩ => ⟨S1024x8192, .bf16⟩
  | .hbm, ⟨18, _⟩ => ⟨S2048x8192, .bf16⟩
  | .hbm, ⟨19, _⟩ => ⟨S2048x2048, .f32⟩
  | .local _ .vmem, ⟨0, _⟩ => ⟨S1024x8192, .bf16⟩
  | .local _ .vmem, ⟨1, _⟩ => ⟨S512x8192, .bf16⟩
  | .local _ .vmem, ⟨2, _⟩ => ⟨S2048x256, .f32⟩
  | .local _ .vmem, ⟨3, _⟩ => ⟨S2048x256, .bf16⟩
  | .local _ .vmem, ⟨4, _⟩ => ⟨S8192x256, .bf16⟩
  | .local _ .vmem, ⟨5, _⟩ => ⟨S2048x256, .bf16⟩
  | .local _ .vmem, ⟨6, _⟩ => ⟨S8192x256, .bf16⟩
  | .local _ .vmem, ⟨7, _⟩ => ⟨S2048x256, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v21 : BitVec 32 := Scalar.muli v2 c4_i32_14
  let v22 : BitVec 32 := Scalar.addi c0_i32_15 v21
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v23 : BitVec 32 := Scalar.muli v9 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v27 : BitVec 32 := Scalar.muli v2 c4_i32_19
  let v28 : BitVec 32 := Scalar.addi c0_i32_20 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v29 : BitVec 32 := Scalar.muli v5 c2_i32_21
  let v30 : BitVec 32 := Scalar.addi v28 v29
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_22 : BitVec 32 := 1#32
  let v31 : BitVec 32 := Scalar.muli v10 c1_i32_22
  let v32 : BitVec 32 := Scalar.addi v30 v31
  v32.toNat
@[reducible] def k0_t1_loop : Scf.Loop 32 :=
  let c0_i32_24 : BitVec 32 := 0#32
  let c10_i32 : BitVec 32 := 10#32
  let v33 : BitVec 32 := Scalar.addi c0_i32_24 c10_i32
  let c1_i32_25 : BitVec 32 := 1#32
  ⟨c0_i32_24, v33, c1_i32_25⟩
def k0_cond1 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c8_i32 : BitVec 32 := 8#32
  let v71 : BitVec 1 := Scalar.cmpi .slt arg19 c8_i32
  let v72 : BitVec 32 := Scalar.extui v71
  let c0_i32_70 : BitVec 32 := 0#32
  let v73 : BitVec 1 := Scalar.cmpi .ne v72 c0_i32_70
  v73

def k0_off1 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.remsi arg19 c2_i32_76
  ![v82.toNat]
def k0_off2 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.remsi arg19 c2_i32_76
  let c256_i32_78 : BitVec 32 := 256#32
  let v84 : BitVec 32 := Scalar.muli v82 c256_i32_78
  let c0_i32_79 : BitVec 32 := 0#32
  ![v84.toNat, 0]
def k0_off3 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c256_i32_77 : BitVec 32 := 256#32
  let v83 : BitVec 32 := Scalar.muli arg19 c256_i32_77
  let c0_i32_80 : BitVec 32 := 0#32
  ![v83.toNat, 0]
def k0_cond2 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c2_i32_81 : BitVec 32 := 2#32
  let v89 : BitVec 1 := Scalar.cmpi .sge arg19 c2_i32_81
  let v90 : BitVec 32 := Scalar.extui v89
  let c0_i32_82 : BitVec 32 := 0#32
  let v91 : BitVec 1 := Scalar.cmpi .ne v90 c0_i32_82
  v91

def k0_off4 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c2_i32_102 : BitVec 32 := 2#32
  let v127 : BitVec 32 := Scalar.subi arg19 c2_i32_102
  let c2_i32_103 : BitVec 32 := 2#32
  let v128 : BitVec 32 := Scalar.remsi v127 c2_i32_103
  ![v128.toNat]
def k0_off5 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v11 : BitVec 32 := Scalar.muli v8 c1024_i32
  let c0_i32_24 : BitVec 32 := 0#32
  let c1_i32_25 : BitVec 32 := 1#32
  let arg19 : BitVec 32 := Scf.iv c0_i32_24 c1_i32_25 k0_t1
  let c2_i32_102 : BitVec 32 := 2#32
  let v127 : BitVec 32 := Scalar.subi arg19 c2_i32_102
  let c256_i32_105 : BitVec 32 := 256#32
  let v130 : BitVec 32 := Scalar.muli v127 c256_i32_105
  ![v11.toNat, v130.toNat]
def k0_off6 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_102 : BitVec 32 := 2#32
  let v127 : BitVec 32 := Scalar.subi arg19 c2_i32_102
  let c2_i32_103 : BitVec 32 := 2#32
  let v128 : BitVec 32 := Scalar.remsi v127 c2_i32_103
  let c1024_i32_104 : BitVec 32 := 1024#32
  let v129 : BitVec 32 := Scalar.muli v128 c1024_i32_104
  let c0_i32_106 : BitVec 32 := 0#32
  ![v129.toNat, 0]
def k0_off7 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_107 : BitVec 32 := 2#32
  let v135 : BitVec 32 := Scalar.subi arg19 c2_i32_107
  let c1024_i32_110 : BitVec 32 := 1024#32
  let v138 : BitVec 32 := Scalar.muli v135 c1024_i32_110
  let c0_i32_113 : BitVec 32 := 0#32
  ![v138.toNat, 0]
def k0_off8 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_69 : BitVec 32 := 2#32
  let v70 : BitVec 32 := Scalar.remsi arg19 c2_i32_69
  let c256_i32_84 : BitVec 32 := 256#32
  let v93 : BitVec 32 := Scalar.muli v70 c256_i32_84
  let v94 : Index := Scalar.indexCast v93
  let c0_85 : Index := 0#32
  ![v94.toNat, 0]
def k0_cond3 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c2_i32_86 : BitVec 32 := 2#32
  let v97 : BitVec 32 := Scalar.addi arg19 c2_i32_86
  let c8_i32_87 : BitVec 32 := 8#32
  let v98 : BitVec 1 := Scalar.cmpi .slt v97 c8_i32_87
  let v99 : BitVec 32 := Scalar.extui v98
  let c0_i32_88 : BitVec 32 := 0#32
  let v100 : BitVec 1 := Scalar.cmpi .ne v99 c0_i32_88
  v100

def k0_off9 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c2_i32_102 : BitVec 32 := 2#32
  let v127 : BitVec 32 := Scalar.addi arg19 c2_i32_102
  let c2_i32_103 : BitVec 32 := 2#32
  let v128 : BitVec 32 := Scalar.remsi v127 c2_i32_103
  ![v128.toNat]
def k0_off10 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_102 : BitVec 32 := 2#32
  let v127 : BitVec 32 := Scalar.addi arg19 c2_i32_102
  let c2_i32_103 : BitVec 32 := 2#32
  let v128 : BitVec 32 := Scalar.remsi v127 c2_i32_103
  let c256_i32_105 : BitVec 32 := 256#32
  let v130 : BitVec 32 := Scalar.muli v128 c256_i32_105
  let c0_i32_106 : BitVec 32 := 0#32
  ![v130.toNat, 0]
def k0_off11 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_102 : BitVec 32 := 2#32
  let v127 : BitVec 32 := Scalar.addi arg19 c2_i32_102
  let c256_i32_104 : BitVec 32 := 256#32
  let v129 : BitVec 32 := Scalar.muli v127 c256_i32_104
  let c0_i32_107 : BitVec 32 := 0#32
  ![v129.toNat, 0]
def k0_off12 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_69 : BitVec 32 := 2#32
  let v70 : BitVec 32 := Scalar.remsi arg19 c2_i32_69
  let c1024_i32_89 : BitVec 32 := 1024#32
  let v101 : BitVec 32 := Scalar.muli v70 c1024_i32_89
  let v102 : Index := Scalar.indexCast v101
  let c0_90 : Index := 0#32
  ![v102.toNat, 0]
def k0_off13 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  ![arg19.toNat]
def k0_off14 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1024_i32_95 : BitVec 32 := 1024#32
  let v114 : BitVec 32 := Scalar.muli arg19 c1024_i32_95
  let c0_i32_100 : BitVec 32 := 0#32
  ![v114.toNat, 0]
def k0_off15 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_93 : BitVec 32 := 2#32
  let v112 : BitVec 32 := Scalar.remsi arg19 c2_i32_93
  let c1024_i32_94 : BitVec 32 := 1024#32
  let v113 : BitVec 32 := Scalar.muli v112 c1024_i32_94
  let c0_i32_101 : BitVec 32 := 0#32
  ![v113.toNat, 0]
def k0_dev3 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v115 : BitVec 32 := Scalar.muli v2 c4_i32_96
  let v116 : BitVec 32 := Scalar.addi c0_i32_97 v115
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_98 : BitVec 32 := 2#32
  let v117 : BitVec 32 := Scalar.muli v9 c2_i32_98
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v119 : BitVec 32 := Scalar.muli v8 c1_i32_99
  let v120 : BitVec 32 := Scalar.addi v118 v119
  v120.toNat
def k0_cond4 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c1_i32_71 : BitVec 32 := 1#32
  let v74 : BitVec 1 := Scalar.cmpi .sge arg19 c1_i32_71
  let c8_i32_72 : BitVec 32 := 8#32
  let v75 : BitVec 1 := Scalar.cmpi .sle arg19 c8_i32_72
  let v76 : BitVec 1 := Scalar.andi v74 v75
  let v77 : BitVec 32 := Scalar.extui v76
  let c0_i32_73 : BitVec 32 := 0#32
  let v78 : BitVec 1 := Scalar.cmpi .ne v77 c0_i32_73
  v78

def k0_off16 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  ![v82.toNat]
def k0_off17 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c1024_i32_80 : BitVec 32 := 1024#32
  let v86 : BitVec 32 := Scalar.muli v82 c1024_i32_80
  let c0_i32_85 : BitVec 32 := 0#32
  ![v86.toNat, 0]
def k0_off18 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_78 : BitVec 32 := 2#32
  let v84 : BitVec 32 := Scalar.remsi v82 c2_i32_78
  let c1024_i32_79 : BitVec 32 := 1024#32
  let v85 : BitVec 32 := Scalar.muli v84 c1024_i32_79
  let c0_i32_86 : BitVec 32 := 0#32
  ![v85.toNat, 0]
def k0_off19 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_77 : BitVec 32 := 2#32
  let v83 : BitVec 32 := Scalar.remsi v82 c2_i32_77
  let c1024_i32_87 : BitVec 32 := 1024#32
  let v97 : BitVec 32 := Scalar.muli v83 c1024_i32_87
  let v98 : Index := Scalar.indexCast v97
  let c0 : Index := 0#32
  ![v98.toNat, 0]
def k0_off20 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c1024_i32_88 : BitVec 32 := 1024#32
  let v100 : BitVec 32 := Scalar.muli v82 c1024_i32_88
  let v101 : Index := Scalar.indexCast v100
  let c0_89 : Index := 0#32
  ![v101.toNat, 0]
def k0_cond5 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_92 : BitVec 32 := 2#32
  let v110 : BitVec 1 := Scalar.cmpi .sge v82 c2_i32_92
  let v111 : BitVec 32 := Scalar.extui v110
  let c0_i32_93 : BitVec 32 := 0#32
  let v112 : BitVec 1 := Scalar.cmpi .ne v111 c0_i32_93
  v112

def k0_off21 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_111 : BitVec 32 := 2#32
  let v144 : BitVec 32 := Scalar.subi v82 c2_i32_111
  let c2_i32_112 : BitVec 32 := 2#32
  let v145 : BitVec 32 := Scalar.remsi v144 c2_i32_112
  ![v145.toNat]
def k0_off22 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_111 : BitVec 32 := 2#32
  let v144 : BitVec 32 := Scalar.subi v82 c2_i32_111
  let c2_i32_112 : BitVec 32 := 2#32
  let v145 : BitVec 32 := Scalar.remsi v144 c2_i32_112
  let c1024_i32_113 : BitVec 32 := 1024#32
  let v146 : BitVec 32 := Scalar.muli v145 c1024_i32_113
  let c0_i32_116 : BitVec 32 := 0#32
  ![v146.toNat, 0]
def k0_off23 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_111 : BitVec 32 := 2#32
  let v144 : BitVec 32 := Scalar.subi v82 c2_i32_111
  let c1024_i32_114 : BitVec 32 := 1024#32
  let v147 : BitVec 32 := Scalar.muli v144 c1024_i32_114
  let c0_i32_117 : BitVec 32 := 0#32
  ![v147.toNat, 0]
def k0_off24 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c2_i32_98 : BitVec 32 := 2#32
  let v122 : BitVec 32 := Scalar.remsi v82 c2_i32_98
  ![v122.toNat]
def k0_dev4 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v125 : BitVec 32 := Scalar.muli v2 c4_i32_101
  let v126 : BitVec 32 := Scalar.addi c0_i32_102 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v127 : BitVec 32 := Scalar.muli v5 c2_i32_103
  let v128 : BitVec 32 := Scalar.addi v126 v127
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_104 : BitVec 32 := 1#32
  let v129 : BitVec 32 := Scalar.muli v10 c1_i32_104
  let v130 : BitVec 32 := Scalar.addi v128 v129
  v130.toNat
def k0_off25 (d0 : Dev nD) (k0_t1 : Fin k0_t1_loop.trips) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v11 : BitVec 32 := Scalar.muli v8 c1024_i32
  let c0_i32_24 : BitVec 32 := 0#32
  let c1_i32_25 : BitVec 32 := 1#32
  let arg19 : BitVec 32 := Scf.iv c0_i32_24 c1_i32_25 k0_t1
  let c1_i32_76 : BitVec 32 := 1#32
  let v82 : BitVec 32 := Scalar.subi arg19 c1_i32_76
  let c256_i32_109 : BitVec 32 := 256#32
  let v139 : BitVec 32 := Scalar.muli v82 c256_i32_109
  ![v11.toNat, v139.toNat]
def k0_cond6 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c2_i32_74 : BitVec 32 := 2#32
  let v79 : BitVec 1 := Scalar.cmpi .sge arg19 c2_i32_74
  let v80 : BitVec 32 := Scalar.extui v79
  let c0_i32_75 : BitVec 32 := 0#32
  let v81 : BitVec 1 := Scalar.cmpi .ne v80 c0_i32_75
  v81

def k0_off26 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  ![v82.toNat]
def k0_off27 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c1024_i32_80 : BitVec 32 := 1024#32
  let v86 : BitVec 32 := Scalar.muli v82 c1024_i32_80
  let c0_i32_85 : BitVec 32 := 0#32
  ![v86.toNat, 0]
def k0_off28 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_78 : BitVec 32 := 2#32
  let v84 : BitVec 32 := Scalar.remsi v82 c2_i32_78
  let c1024_i32_79 : BitVec 32 := 1024#32
  let v85 : BitVec 32 := Scalar.muli v84 c1024_i32_79
  let c0_i32_86 : BitVec 32 := 0#32
  ![v85.toNat, 0]
def k0_cond7 (k0_t1 : Fin k0_t1_loop.trips) : BitVec 1 :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_87 : BitVec 32 := 2#32
  let v97 : BitVec 1 := Scalar.cmpi .sge v82 c2_i32_87
  let v98 : BitVec 32 := Scalar.extui v97
  let c0_i32_88 : BitVec 32 := 0#32
  let v99 : BitVec 1 := Scalar.cmpi .ne v98 c0_i32_88
  v99

def k0_off29 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_98 : BitVec 32 := 2#32
  let v118 : BitVec 32 := Scalar.subi v82 c2_i32_98
  let c2_i32_99 : BitVec 32 := 2#32
  let v119 : BitVec 32 := Scalar.remsi v118 c2_i32_99
  ![v119.toNat]
def k0_off30 (d0 : Dev nD) (k0_t1 : Fin k0_t1_loop.trips) : Fin 2 → Nat :=
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v121 : BitVec 32 := Scalar.subi c1_i32_101 v8
  let c1024_i32_102 : BitVec 32 := 1024#32
  let v122 : BitVec 32 := Scalar.muli v121 c1024_i32_102
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_98 : BitVec 32 := 2#32
  let v118 : BitVec 32 := Scalar.subi v82 c2_i32_98
  let c256_i32_103 : BitVec 32 := 256#32
  let v123 : BitVec 32 := Scalar.muli v118 c256_i32_103
  ![v122.toNat, v123.toNat]
def k0_off31 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_98 : BitVec 32 := 2#32
  let v118 : BitVec 32 := Scalar.subi v82 c2_i32_98
  let c2_i32_99 : BitVec 32 := 2#32
  let v119 : BitVec 32 := Scalar.remsi v118 c2_i32_99
  let c1024_i32_100 : BitVec 32 := 1024#32
  let v120 : BitVec 32 := Scalar.muli v119 c1024_i32_100
  let c0_i32_104 : BitVec 32 := 0#32
  ![v120.toNat, 0]
def k0_off32 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c1024_i32_89 : BitVec 32 := 1024#32
  let v100 : BitVec 32 := Scalar.muli v82 c1024_i32_89
  let v101 : Index := Scalar.indexCast v100
  let c0 : Index := 0#32
  ![v101.toNat, 0]
def k0_off33 (k0_t1 : Fin k0_t1_loop.trips) : Fin 2 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_77 : BitVec 32 := 2#32
  let v83 : BitVec 32 := Scalar.remsi v82 c2_i32_77
  let c1024_i32_90 : BitVec 32 := 1024#32
  let v104 : BitVec 32 := Scalar.muli v83 c1024_i32_90
  let v105 : Index := Scalar.indexCast v104
  let c0_91 : Index := 0#32
  ![v105.toNat, 0]
def k0_off34 (k0_t1 : Fin k0_t1_loop.trips) : Fin 1 → Nat :=
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c2_i32_92 : BitVec 32 := 2#32
  let v109 : BitVec 32 := Scalar.remsi v82 c2_i32_92
  ![v109.toNat]
def k0_off35 (d0 : Dev nD) (k0_t1 : Fin k0_t1_loop.trips) : Fin 2 → Nat :=
  let c1_i32_94 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v111 : BitVec 32 := Scalar.subi c1_i32_94 v8
  let c1024_i32_95 : BitVec 32 := 1024#32
  let v112 : BitVec 32 := Scalar.muli v111 c1024_i32_95
  let c0_i32_24 : BitVec 32 := 0#32
  let c1_i32_25 : BitVec 32 := 1#32
  let arg19 : BitVec 32 := Scf.iv c0_i32_24 c1_i32_25 k0_t1
  let c2_i32_76 : BitVec 32 := 2#32
  let v82 : BitVec 32 := Scalar.subi arg19 c2_i32_76
  let c256_i32_96 : BitVec 32 := 256#32
  let v113 : BitVec 32 := Scalar.muli v82 c256_i32_96
  ![v112.toNat, v113.toNat]
def k0_off36 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v11 : BitVec 32 := Scalar.muli v8 c1024_i32
  let c1536_i32 : BitVec 32 := 1536#32
  ![v11.toNat, 1536]
def k0_off37 (d0 : Dev nD) : Fin 2 → Nat :=
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_42 v8
  let c1024_i32_43 : BitVec 32 := 1024#32
  let v47 : BitVec 32 := Scalar.muli v46 c1024_i32_43
  let c1536_i32_45 : BitVec 32 := 1536#32
  ![v47.toNat, 1536]
def k0_off38 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v11 : BitVec 32 := Scalar.muli v8 c1024_i32
  let c1792_i32 : BitVec 32 := 1792#32
  ![v11.toNat, 1792]
def k0_off39 (d0 : Dev nD) : Fin 2 → Nat :=
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_63 v8
  let c1024_i32_64 : BitVec 32 := 1024#32
  let v65 : BitVec 32 := Scalar.muli v64 c1024_i32_64
  let c1792_i32_66 : BitVec 32 := 1792#32
  ![v65.toNat, 1792]
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geom.lean ====
/-
  The geometry of the kernel: the two partners of a device, the windows each chunk of the pipeline uses, the cells of
  its semaphores, and the closed forms of the offsets, conditions and device numbers the printed body computes.

  The protocol, by semaphore (k is a chunk, 0 ≤ k < 8; s = k mod 2 its slot; yN, zN the partners across the axes y, z):
    barrier        waited once for 2 by its own device; signalled by yN (handing over the eight landing slots of yN for
                   chunks sent along y) and by zN (the same along z). Before any remote copy.
    dy, w[s]       own copies: the block of dy, and chunk k of w into slot s; one copy in flight per cell.
    ysend[s]       paid by the own copy of chunk k along y when its source is read; waited before chunk k+2 fills slot s.
    yrecv[k]       paid by the copy of chunk k from yN; hands over landing slot k holding yN's rounded partial product.
    zsend[s]       as ysend, along z.
    zrecv[k]       paid by the copy of chunk k from zN; hands over landing slot k holding zN's rounded sum.
    oy[s], oz[s]   own copies of a finished block into the result; one copy in flight per cell.
-/
module

public import proofs.«01_k».proof.Proof.Gen.KernelIdeal.Skeleton

@[expose] public section

set_option maxRecDepth 16384

noncomputable section

namespace Cert.Proof

open Idealize.ShloMosaic Idealize.ShloMosaic.TcCoe Idealize.SL.Sem
open Cert.KernelIdeal Cert.KernelIdeal.Gen

/-! ## Partners -/

/-- The device across the axis y: the middle bit flipped. -/
def yN (c : Dev nD) : Dev nD := ⟨if c.val / 2 % 2 = 0 then c.val + 2 else c.val - 2, by have h : c.val < 8 := c.isLt; show _ < 8; split <;> omega⟩
/-- The device across the axis z: the last bit flipped. -/
def zN (c : Dev nD) : Dev nD := ⟨if c.val % 2 = 0 then c.val + 1 else c.val - 1, by have h : c.val < 8 := c.isLt; show _ < 8; split <;> omega⟩

theorem yN_yN (c : Dev nD) : yN (yN c) = c := by revert c; decide
theorem zN_zN (c : Dev nD) : zN (zN c) = c := by revert c; decide
theorem yN_ne (c : Dev nD) : yN c ≠ c := by revert c; decide
theorem zN_ne (c : Dev nD) : zN c ≠ c := by revert c; decide
theorem yN_ne_zN (c : Dev nD) : yN c ≠ zN c := by revert c; decide

theorem dev1_eq (c : Dev nD) (h : k0_dev1 c < nD) : (⟨k0_dev1 c, h⟩ : Dev nD) = yN c :=
  Fin.ext ((by decide +kernel : ∀ c : Dev nD, k0_dev1 c = (yN c).val) c)
theorem dev2_eq (c : Dev nD) (h : k0_dev2 c < nD) : (⟨k0_dev2 c, h⟩ : Dev nD) = zN c :=
  Fin.ext ((by decide +kernel : ∀ c : Dev nD, k0_dev2 c = (zN c).val) c)
theorem dev3_eq (c : Dev nD) (h : k0_dev3 c < nD) : (⟨k0_dev3 c, h⟩ : Dev nD) = yN c :=
  Fin.ext ((by decide +kernel : ∀ c : Dev nD, k0_dev3 c = (yN c).val) c)
theorem dev4_eq (c : Dev nD) (h : k0_dev4 c < nD) : (⟨k0_dev4 c, h⟩ : Dev nD) = zN c :=
  Fin.ext ((by decide +kernel : ∀ c : Dev nD, k0_dev4 c = (zN c).val) c)

/-! ## Trips: chunk k is computed at trip k, reduced at trip k+1, gathered at trip k+2 -/

theorem trips_eq : k0_t1_loop.trips = 10 := by decide +kernel

def tc (k : Fin 8) : Fin k0_t1_loop.trips := ⟨k.val, by rw [trips_eq]; omega⟩
def tr (k : Fin 8) : Fin k0_t1_loop.trips := ⟨k.val + 1, by rw [trips_eq]; omega⟩
def tg (k : Fin 8) : Fin k0_t1_loop.trips := ⟨k.val + 2, by rw [trips_eq]; omega⟩

theorem cond1_iff (t : Fin k0_t1_loop.trips) : k0_cond1 t = 1#1 ↔ t.val < 8 := by revert t; decide +kernel
theorem cond4_iff (t : Fin k0_t1_loop.trips) : k0_cond4 t = 1#1 ↔ 1 ≤ t.val ∧ t.val ≤ 8 := by revert t; decide +kernel
theorem cond6_iff (t : Fin k0_t1_loop.trips) : k0_cond6 t = 1#1 ↔ 2 ≤ t.val := by revert t; decide +kernel
theorem cond2_iff (k : Fin 8) : k0_cond2 (tc k) = 1#1 ↔ 2 ≤ k.val := by revert k; decide +kernel
theorem cond3_iff (k : Fin 8) : k0_cond3 (tc k) = 1#1 ↔ k.val + 2 < 8 := by revert k; decide +kernel
theorem cond5_iff (k : Fin 8) : k0_cond5 (tr k) = 1#1 ↔ 2 ≤ k.val := by revert k; decide +kernel
theorem cond7_iff (k : Fin 8) : k0_cond7 (tg k) = 1#1 ↔ 2 ≤ k.val := by revert k; decide +kernel

theorem off1_eq (k : Fin 8) : k0_off1 (tc k) = ![k.val % 2] := by revert k; decide +kernel
theorem off4_eq (k : Fin 8) (h : 2 ≤ k.val) : k0_off4 (tc k) = ![k.val % 2] := by revert k; decide +kernel
theorem off8_eq (k : Fin 8) : k0_off8 (tc k) = ![256 * (k.val % 2), 0] := by revert k; decide +kernel
theorem off9_eq (k : Fin 8) (h : k.val + 2 < 8) : k0_off9 (tc k) = ![k.val % 2] := by revert k; decide +kernel
theorem off10_eq (k : Fin 8) (h : k.val + 2 < 8) : k0_off10 (tc k) = ![256 * (k.val % 2), 0] := by revert k; decide +kernel
theorem off11_eq (k : Fin 8) (h : k.val + 2 < 8) : k0_off11 (tc k) = ![256 * (k.val + 2), 0] := by revert k; decide +kernel
theorem off12_eq (k : Fin 8) : k0_off12 (tc k) = ![1024 * (k.val % 2), 0] := by revert k; decide +kernel
theorem off13_eq (k : Fin 8) : k0_off13 (tc k) = ![k.val] := by revert k; decide +kernel
theorem off14_eq (k : Fin 8) : k0_off14 (tc k) = ![1024 * k.val, 0] := by revert k; decide +kernel
theorem off15_eq (k : Fin 8) : k0_off15 (tc k) = ![1024 * (k.val % 2), 0] := by revert k; decide +kernel

theorem off16_eq (k : Fin 8) : k0_off16 (tr k) = ![k.val] := by revert k; decide +kernel
theorem off17_eq (k : Fin 8) : k0_off17 (tr k) = ![1024 * k.val, 0] := by revert k; decide +kernel
theorem off18_eq (k : Fin 8) : k0_off18 (tr k) = ![1024 * (k.val % 2), 0] := by revert k; decide +kernel
theorem off19_eq (k : Fin 8) : k0_off19 (tr k) = ![1024 * (k.val % 2), 0] := by revert k; decide +kernel
theorem off20_eq (k : Fin 8) : k0_off20 (tr k) = ![1024 * k.val, 0] := by revert k; decide +kernel
theorem off21_eq (k : Fin 8) (h : 2 ≤ k.val) : k0_off21 (tr k) = ![k.val % 2] := by revert k; decide +kernel
theorem off24_eq (k : Fin 8) : k0_off24 (tr k) = ![k.val % 2] := by revert k; decide +kernel
theorem off25_eq (c : Dev nD) (k : Fin 8) : k0_off25 c (tr k) = ![1024 * (c.val % 2), 256 * k.val] := by
  revert c k; decide +kernel

theorem off26_eq (k : Fin 8) : k0_off26 (tg k) = ![k.val] := by revert k; decide +kernel
theorem off28_eq (k : Fin 8) : k0_off28 (tg k) = ![1024 * (k.val % 2), 0] := by revert k; decide +kernel
theorem off29_eq (k : Fin 8) (h : 2 ≤ k.val) : k0_off29 (tg k) = ![k.val % 2] := by revert k; decide +kernel
theorem off32_eq (k : Fin 8) : k0_off32 (tg k) = ![1024 * k.val, 0] := by revert k; decide +kernel
theorem off33_eq (k : Fin 8) : k0_off33 (tg k) = ![1024 * (k.val % 2), 0] := by revert k; decide +kernel
theorem off34_eq (k : Fin 8) : k0_off34 (tg k) = ![k.val % 2] := by revert k; decide +kernel
theorem off35_eq (c : Dev nD) (k : Fin 8) : k0_off35 c (tg k) = ![1024 * ((c.val + 1) % 2), 256 * k.val] := by
  revert c k; decide +kernel

/-- The slot of a chunk. -/
def sl (k : Fin 8) : Fin 2 := ⟨k.val % 2, Nat.mod_lt _ (by decide)⟩

/-! ## Windows -/

theorem slotInb (k : Fin 2) : ∀ a, (![1024 * k.val, 0] : Fin 2 → ℕ) a + S1024x256.size a ≤ S2048x256.size a := by
  revert k; decide
theorem recvInb (k : Fin 8) : ∀ a, (![1024 * k.val, 0] : Fin 2 → ℕ) a + S1024x256.size a ≤ S8192x256.size a := by
  revert k; decide
theorem wslotInb (k : Fin 2) : ∀ a, (![256 * k.val, 0] : Fin 2 → ℕ) a + S256x8192.size a ≤ S512x8192.size a := by
  revert k; decide
theorem wsrcInb (k : Fin 8) : ∀ a, (![256 * k.val, 0] : Fin 2 → ℕ) a + S256x8192.size a ≤ S2048x8192.size a := by
  revert k; decide
theorem outInb (r : Fin 2) (k : Fin 8) :
    ∀ a, (![1024 * r.val, 256 * k.val] : Fin 2 → ℕ) a + S1024x256.size a ≤ S2048x2048.size a := by
  revert r k; decide

/-- Slot k of the buffer of partial products. -/
abbrev pM (k : Fin 2) : Memref sig .tc .vmem S1024x256 .f32 :=
  (Memref.whole cc0_scratch2).slice (Rect.unit (s := S2048x256) ![1024 * k.val, 0] S1024x256.size (slotInb k)) (fun _ => rfl)
/-- Slot k of the buffer sent along y. -/
abbrev ysM (k : Fin 2) : Memref sig .tc .vmem S1024x256 .bf16 :=
  (Memref.whole cc0_scratch3).slice (Rect.unit (s := S2048x256) ![1024 * k.val, 0] S1024x256.size (slotInb k)) (fun _ => rfl)
/-- Chunk k's landing slot for the copy along y. -/
abbrev yrM (k : Fin 8) : Memref sig .tc .vmem S1024x256 .bf16 :=
  (Memref.whole cc0_scratch4).slice (Rect.unit (s := S8192x256) ![1024 * k.val, 0] S1024x256.size (recvInb k)) (fun _ => rfl)
/-- Slot k of the buffer sent along z. -/
abbrev zsM (k : Fin 2) : Memref sig .tc .vmem S1024x256 .bf16 :=
  (Memref.whole cc0_scratch5).slice (Rect.unit (s := S2048x256) ![1024 * k.val, 0] S1024x256.size (slotInb k)) (fun _ => rfl)
/-- Chunk k's landing slot for the copy along z. -/
abbrev zrM (k : Fin 8) : Memref sig .tc .vmem S1024x256 .bf16 :=
  (Memref.whole cc0_scratch6).slice (Rect.unit (s := S8192x256) ![1024 * k.val, 0] S1024x256.size (recvInb k)) (fun _ => rfl)
/-- Slot k of the buffer of gathered blocks. -/
abbrev zfM (k : Fin 2) : Memref sig .tc .vmem S1024x256 .f32 :=
  (Memref.whole cc0_scratch7).slice (Rect.unit (s := S2048x256) ![1024 * k.val, 0] S1024x256.size (slotInb k)) (fun _ => rfl)
/-- Slot k of the buffer of rows of w. -/
abbrev wM (k : Fin 2) : Memref sig .tc .vmem S256x8192 .bf16 :=
  (Memref.whole cc0_scratch1).slice (Rect.unit (s := S512x8192) ![256 * k.val, 0] S256x8192.size (wslotInb k)) (fun _ => rfl)
/-- Chunk k's rows of w in main memory. -/
abbrev wsrcM (k : Fin 8) : Memref sig .tc .hbm S256x8192 .bf16 :=
  (Memref.whole main_v11).slice (Rect.unit (s := S2048x8192) ![256 * k.val, 0] S256x8192.size (wsrcInb k)) (fun _ => rfl)
/-- The block of the result at row half r and chunk k. -/
abbrev outM (r : Fin 2) (k : Fin 8) : Memref sig .tc .hbm S1024x256 .f32 :=
  (Memref.whole main_v12).slice (Rect.unit (s := S2048x2048) ![1024 * r.val, 256 * k.val] S1024x256.size (outInb r k)) (fun _ => rfl)
abbrev dyM : Memref sig .tc .vmem S1024x8192 .bf16 := Memref.whole cc0_scratch0
abbrev dysrcM : Memref sig .tc .hbm S1024x8192 .bf16 := Memref.whole main_v10

/-- The row half device c reduces. -/
def own₀ (c : Dev nD) : Fin 2 := ⟨c.val % 2, Nat.mod_lt _ (by decide)⟩
/-- The row half device c receives from its partner across z. -/
def oth (c : Dev nD) : Fin 2 := ⟨(c.val + 1) % 2, Nat.mod_lt _ (by decide)⟩

/-! ## Semaphores -/

abbrev dyS : DmaSem sig := ⟨0, by decide⟩
abbrev wS (k : Fin 2) : DmaSem sig := ⟨1 + k.val, by have := k.isLt; show _ < 27; omega⟩
abbrev ysS (k : Fin 2) : DmaSem sig := ⟨3 + k.val, by have := k.isLt; show _ < 27; omega⟩
abbrev yrS (k : Fin 8) : DmaSem sig := ⟨5 + k.val, by have := k.isLt; show _ < 27; omega⟩
abbrev zsS (k : Fin 2) : DmaSem sig := ⟨13 + k.val, by have := k.isLt; show _ < 27; omega⟩
abbrev zrS (k : Fin 8) : DmaSem sig := ⟨15 + k.val, by have := k.isLt; show _ < 27; omega⟩
abbrev oyS (k : Fin 2) : DmaSem sig := ⟨23 + k.val, by have := k.isLt; show _ < 27; omega⟩
abbrev ozS (k : Fin 2) : DmaSem sig := ⟨25 + k.val, by have := k.isLt; show _ < 27; omega⟩
abbrev barS : Sem sig := barrier0

/-- What a semaphore is for in the protocol between devices. -/
inductive Role where
  | bar
  | ys (s : Fin 2)
  | yr (k : Fin 8)
  | zs (s : Fin 2)
  | zr (k : Fin 8)
  | none
deriving DecidableEq

/-- The role of each semaphore; those of local copies have none. -/
def role : SemLoc sig → Role
  | .reg s => if s = barS then .bar else .none
  | .dma i =>
    if i.val < 3 then .none
    else if h : i.val < 5 then .ys ⟨(i.val - 3) % 2, Nat.mod_lt _ (by decide)⟩
    else if h : i.val < 13 then .yr ⟨(i.val - 5) % 8, Nat.mod_lt _ (by decide)⟩
    else if h : i.val < 15 then .zs ⟨(i.val - 13) % 2, Nat.mod_lt _ (by decide)⟩
    else if h : i.val < 23 then .zr ⟨(i.val - 15) % 8, Nat.mod_lt _ (by decide)⟩
    else .none

theorem role_bar : role (.reg barS) = .bar := by decide
theorem role_ys (s : Fin 2) : role (.dma (ysS s)) = .ys s := by revert s; decide
theorem role_yr (k : Fin 8) : role (.dma (yrS k)) = .yr k := by revert k; decide
theorem role_zs (s : Fin 2) : role (.dma (zsS s)) = .zs s := by revert s; decide
theorem role_zr (k : Fin 8) : role (.dma (zrS k)) = .zr k := by revert k; decide
theorem role_dy : role (.dma dyS) = .none := by decide
theorem role_w (s : Fin 2) : role (.dma (wS s)) = .none := by revert s; decide
theorem role_oy (s : Fin 2) : role (.dma (oyS s)) = .none := by revert s; decide
theorem role_oz (s : Fin 2) : role (.dma (ozS s)) = .none := by revert s; decide

/-- A cell of a consecutive pair of semaphores, at a computed index. -/
theorem sem2_eq {base : ℕ} (hb : base + S2.numel ≤ 27) (off : Fin 1 → ℕ) (hin : ∀ a, off a + S1.size a ≤ S2.size a) (i : ℕ)
    (h : off = ![i]) (hi : base + i < 27) :
    (((SemArray.consecutive base S2 hb : DmaSems sig S2).slice (Rect.unit (s := S2) off S1.size hin)).squeeze S_ squeezes_S1_S_).sem
      = (⟨base + i, hi⟩ : DmaSem sig) := by
  subst h
  have h0 : i + 1 ≤ 2 := hin 0
  refine Fin.ext (congrArg (base + ·) ?_)
  obtain rfl | rfl : i = 0 ∨ i = 1 := by omega
  all_goals (clear h0 hi hb; revert hin; decide +kernel)
/-- A cell of eight consecutive semaphores, at a computed index. -/
theorem sem8_eq {base : ℕ} (hb : base + S8.numel ≤ 27) (off : Fin 1 → ℕ) (hin : ∀ a, off a + S1.size a ≤ S8.size a) (i : ℕ)
    (h : off = ![i]) (hi : base + i < 27) :
    (((SemArray.consecutive base S8 hb : DmaSems sig S8).slice (Rect.unit (s := S8) off S1.size hin)).squeeze S_ squeezes_S1_S_).sem
      = (⟨base + i, hi⟩ : DmaSem sig) := by
  subst h
  have h0 : i + 1 ≤ 8 := hin 0
  refine Fin.ext (congrArg (base + ·) ?_)
  obtain rfl | rfl | rfl | rfl | rfl | rfl | rfl | rfl : i = 0 ∨ i = 1 ∨ i = 2 ∨ i = 3 ∨ i = 4 ∨ i = 5 ∨ i = 6 ∨ i = 7 := by omega
  all_goals (clear h0 hi hb; revert hin; decide +kernel)

end Cert.Proof

end
-- ==== Proof.Steps.lean ====
/-
  Owning a window at a named value, and the rules of the kernel's memory operations over it. Each rule takes the view the
  program computes together with an equation naming the canonical window it is.
-/
module

public import proofs.«01_k».proof.Proof.Geom
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.StableHlo
public import Idealize.ShloMosaic.Lib.Tactic

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-- The protocol's rounds: two duties, told apart by a Boolean (the barrier is signalled twice). -/
abbrev UT : Type := URounds (GSem nD τ sig) Bool
/-- The pipeline library's part, the protocol's, the counters of local copies. -/
abbrev UU : Type := UR sig nD τ × (UT × Counters)

local notation "𝕄" => MT nD τ sig Unit (Elt F) ℕ UU ℕ

abbrev EP : Emb (UR sig nD τ) (MT nD τ sig Unit (Elt F) ℕ UU ℕ) := embL
def ER : Emb UT (MT nD τ sig Unit (Elt F) ℕ UU ℕ) := (Emb.inl : Emb UT (UT × Counters)).trans embR
instance ER_landsIn : (ER : Emb UT 𝕄).LandsIn (upEmb : UEmb _ 𝕄) := by unfold ER; infer_instance
abbrev EC : UEmb Counters (MT nD τ sig Unit (Elt F) ℕ UU ℕ) := countersEmb
abbrev 𝒱₀ : Variants := Variants.none

/-! ## Owning a window -/

variable {sp sp' : Space} {s : Shape} {e : EltTy}

/-- Device c's window, whole, holding w. -/
def own (c : Dev nD) (v : View sig .tc sp s e) (w : s.Idx → Elt F e) : sProp 𝕄 :=
  iprop(∃ f : Buf (Elt F) (v.loc (c : Thread nD τ)), ⌜v.read (Elt F) f = w⌝ ∗ (v.loc (c : Thread nD τ) ↦[v.set]{fullShare} f))
/-- Device c's window, whole, holding anything. -/
def ownAny (c : Dev nD) (v : View sig .tc sp s e) : sProp 𝕄 :=
  iprop(∃ f : Buf (Elt F) (v.loc (c : Thread nD τ)), (v.loc (c : Thread nD τ) ↦[v.set]{fullShare} f))

theorem own_any (c : Dev nD) (v : View sig .tc sp s e) (w : s.Idx → Elt F e) : own c v w ⊢ (ownAny c v : sProp 𝕄) := by
  unfold own ownAny; iintro ⟨%f, -, H⟩; iexists f; iexact H

instance own_storable (c : Dev nD) (v : View sig .tc sp s e) (w : s.Idx → Elt F e) : BI.Storable (upEmb : UEmb _ 𝕄) (own c v w) := by
  unfold own; infer_instance
instance ownAny_storable (c : Dev nD) (v : View sig .tc sp s e) : BI.Storable (upEmb : UEmb _ 𝕄) (ownAny (F := F) c v) := by
  unfold ownAny; infer_instance

/-! ## Loads and stores -/

section
variable {α : Type} {Q : α → sProp (MT nD τ sig Unit (Elt F) ℕ UU ℕ)} (c : Dev nD)

/-- A load of a window whose value is known. -/
theorem wp_loadOwn {cs : CoreSpace} {s₀ : Shape} {m : Memref sig .tc cs s₀ e} {r : Rect s₀} {hl : m.view.LoadsAt r}
    {k : (r.shape.Idx → Elt F e) → Prog (TpuEff nD τ sig (Elt F) Λ₀ .tc) α}
    {v : View sig .tc cs r.shape e} (hv : m.access r = v) {w : r.shape.Idx → Elt F e} :
    own c v w ⊢ iprop((own c v w -∗ wp frame (wpE (defs₀ (F := F)) 𝒱₀ (c : Thread nD τ) none) Set.univ (k w) Q)
      -∗ wp frame (wpE (defs₀ (F := F)) 𝒱₀ (c : Thread nD τ) none) Set.univ (.op (.load m r hl) k) Q) := by
  subst hv
  unfold own
  iintro ⟨%f, %hf, H⟩ Hk
  subst hf
  iapply (wp_load_rect (c := (c : Thread nD τ)) 𝒱₀ none Set.univ (Finset.Subset.refl _)) $$ [H]
  · iexact H
  iintro H
  iapply Hk
  iexists f
  isplitr; · ipureintro; rfl
  iexact H

/-- A load of the whole device block of dy. -/
theorem wp_loadDy {off : Fin 2 → ℕ} (h0 : off = fun _ => 0) {hin : ∀ a, off a + S1024x8192.size a ≤ S1024x8192.size a}
    {hl : (Memref.whole cc0_scratch0 : Memref sig .tc _ _ _).view.LoadsAt (Rect.unit (s := S1024x8192) off S1024x8192.size hin).toLoadRect}
    {k : Vec F S1024x8192 .bf16 → Prog (TpuEff nD τ sig (Elt F) Λ₀ .tc) α} {w : Vec F S1024x8192 .bf16} :
    own c dyM.view w ⊢ iprop((own c dyM.view w -∗ wp frame (wpE (defs₀ (F := F)) 𝒱₀ (c : Thread nD τ) none) Set.univ (k w) Q)
      -∗ wp frame (wpE (defs₀ (F := F)) 𝒱₀ (c : Thread nD τ) none) Set.univ
          (.op (.load (Memref.whole cc0_scratch0) (Rect.unit (s := S1024x8192) off S1024x8192.size hin).toLoadRect hl) k) Q) := by
  unfold own
  iintro ⟨%f, %hf, H⟩ Hk
  have hr : (dyM.access (Rect.unit (s := S1024x8192) off S1024x8192.size hin)).read (Elt F) f = w := by
    rw [← hf]; exact Memref.read_access_unit_zero (Elt F) cc0_scratch0 h0 hin f
  subst hr
  iapply (wp_load_rect (c := (c : Thread nD τ)) (S := dyM.view.set) 𝒱₀ none Set.univ ?_) $$ [H]
  · rw [View.set_whole]; exact Finset.subset_univ _
  · iexact H
  iintro H
  iapply Hk
  iexists f
  isplitr; · ipureintro; exact hf
  iexact H

/-- A load of a window whose value is not known. -/
theorem wp_loadAny {cs : CoreSpace} {s₀ : Shape} {m : Memref sig .tc cs s₀ e} {r : Rect s₀} {hl : m.view.LoadsAt r}
    {k : (r.shape.Idx → Elt F e) → Prog (TpuEff nD τ sig (Elt F) Λ₀ .tc) α}
    {v : View sig .tc cs r.shape e} (hv : m.access r = v) :
    ownAny c v ⊢ iprop((∀ w, ownAny c v -∗ wp frame (wpE (defs₀ (F := F)) 𝒱₀ (c : Thread nD τ) none) Set.univ (k w) Q)
      -∗ wp frame (wpE (defs₀ (F := F)) 𝒱₀ (c : Thread nD τ) none) Set.univ (.op (.load m r hl) k) Q) := by
  subst hv
  unfold ownAny
  iintro ⟨%f, H⟩ Hk
  iapply (wp_load_rect (c := (c : Thread nD τ)) 𝒱₀ none Set.univ (Finset.Subset.refl _)) $$ [H]
  · iexact H
  iintro H
  iapply Hk
  iexists f
  iexact H

/-- A store over a whole window. -/
theorem wp_storeOwn {cs : CoreSpace} {s₀ : Shape} {m : Memref sig .tc cs s₀ e} {r : Rect s₀} {w : r.shape.Idx → Elt F e}
    {hx : (m.access r).Stores Finset.univ} {hm : Finset.univ = Finset.univ ∨ ∀ a, r.stride a = 1}
    {k : PUnit → Prog (TpuEff nD τ sig (Elt F) Λ₀ .tc) α}
    {v : View sig .tc cs r.shape e} (hv : m.access r = v) :
    ownAny c v ⊢ iprop((own c v w -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  subst hv
  unfold own ownAny
  iintro ⟨%f, H⟩ Hk
  iapply (wp_store (c := (c : Thread nD τ)) 𝒱₀ none Set.univ (Finset.Subset.refl _)) $$ [H]
  · iexact H
  iintro H
  iapply Hk
  iexists _
  isplitr; rotate_left
  · iexact H
  · ipureintro; exact View.read_write_univ _ _

/-- A local copy of a window of known value; its wait hands both windows back. -/
theorem wp_copyOwn {src : Memref sig .tc sp s e} {dst : Memref sig .tc sp' s e} {sm sm' : DmaSem sig}
    {hsrc : src.view.WordExact} {hdst : dst.view.WordExact} {hsem : DmaTarget.Typed (nD := nD) (τ := τ) sp (.dma sm) (DmaTarget.here (p := (.tc : Proc τ)) dst)}
    {k : PUnit → Prog (TpuEff nD τ sig (Elt F) Λ₀ .tc) α} {src' : Memref sig .tc sp s e} {dst' : Memref sig .tc sp' s e}
    (hs : src = src') (hd : dst = dst') (hsm : sm = sm')
    (N : ℕ) (hN : dst'.view.amount (.dma sm') = N) (hN0 : 0 < N) {w : s.Idx → Elt F e} :
    iprop(own c src'.view w ∗ ownAny c dst'.view ∗ semVal ((c : Thread nD τ), .dma sm') 0)
      ⊢ iprop((Flight EC (c : Thread nD τ) (.dma sm') () N iprop(own c dst'.view w ∗ own c src'.view w)
          -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) (.dma sm) hsrc hdst hsem) k) Q) := by
  subst hs; subst hd; subst hsm
  iintro ⟨Hs, Hd, Hv⟩ Hk
  unfold own ownAny
  icases Hs with ⟨%f, %hf, Hs⟩
  icases Hd with ⟨%g, Hd⟩
  iapply (wp_dmaLocal (c := (c : Thread nD τ)) EC 𝒱₀ none () N hN hN0 (Finset.Subset.refl _)) $$ [Hs Hd Hv]
  · isplitl [Hs]; · iexact Hs
    isplitl [Hd]; · iexact Hd
    iexact Hv
  iintro Hf
  iapply Hk
  iapply (Flight_mono (D := _) ?_) $$ Hf
  iintro ⟨Hd, Hs⟩
  isplitl [Hd]
  · iexists _
    isplitr; rotate_left
    · iexact Hd
    · ipureintro; rw [View.read_write_univ]; exact hf
  · iexists f
    isplitr; · ipureintro; exact hf
    iexact Hs

/-- The wait for a local copy. -/
theorem wp_waitOwn {κ' : Kind} {s' : Shape} {e' : EltTy} {srcw : Memref sig .tc sp' s' e'} {dstw : Memref sig κ' sp s e} {sem sem' : DmaSem sig}
    {hsrc : srcw.view.WordExact} {hdst : dstw.view.WordExact} {k : PUnit → Prog (TpuEff nD τ sig (Elt F) Λ₀ .tc) α}
    (hsm : sem = sem') (N : ℕ) (hN : dstw.view.dmaCredit = N) {D : sProp (MT nD τ sig Unit (Elt F) ℕ UU ℕ)}
    {O : CellTallies nD τ sig Unit} :
    iprop(Flight EC (c : Thread nD τ) (.dma sem') () N D ∗ (∃ W, owes (c : Thread nD τ) O W) ∗ MayWait (c : Thread nD τ) (.dma sem') () O)
      ⊢ iprop((iprop(D ∗ semVal ((c : Thread nD τ), .dma sem') 0 ∗ ∃ W, owes (c : Thread nD τ) O W)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem srcw dstw hsrc hdst) k) Q) := by
  subst hsm
  iintro ⟨Hf, ⟨%W, HO⟩, Hm⟩ Hk
  iapply (wp_waitLocalO (c := (c : Thread nD τ)) EC 𝒱₀ none () hN) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists _; iexact HO

theorem ret_bind {ρ β : Type} (x : ρ) (k : ρ → Prog (TpuEff nD τ sig (Elt F) Λ₀ .tc) β) : (Prog.ret x).bind k = k x := rfl

/-- A conditional statement before the rest of a program: both branches end in the same resources. -/
theorem wp_jp {C : Prop} [Decidable C] (j : PUnit → Prog (TpuEff nD τ sig (Elt F) Λ₀ .tc) α)
    {X : C → Prog (TpuEff nD τ sig (Elt F) Λ₀ .tc) α} {Y : ¬C → Prog (TpuEff nD τ sig (Elt F) Λ₀ .tc) α}
    (P R : sProp (MT nD τ sig Unit (Elt F) ℕ UU ℕ))
    (hX : ∀ h : C, P ⊢ iprop((R -∗ wp frame (wpE (defs₀ (F := F)) 𝒱₀ (c : Thread nD τ) none) Set.univ (j ⟨⟩) Q)
        -∗ wp frame (wpE (defs₀ (F := F)) 𝒱₀ (c : Thread nD τ) none) Set.univ (X h) Q))
    (hY : ∀ h : ¬C, P ⊢ iprop((R -∗ wp frame (wpE (defs₀ (F := F)) 𝒱₀ (c : Thread nD τ) none) Set.univ (j ⟨⟩) Q)
        -∗ wp frame (wpE (defs₀ (F := F)) 𝒱₀ (c : Thread nD τ) none) Set.univ (Y h) Q)) :
    P ⊢ iprop((R -∗ wp frame (wpE (defs₀ (F := F)) 𝒱₀ (c : Thread nD τ) none) Set.univ (j ⟨⟩) Q)
      -∗ wp frame (wpE (defs₀ (F := F)) 𝒱₀ (c : Thread nD τ) none) Set.univ (if h : C then X h else Y h) Q) := by
  by_cases h : C
  · rw [dif_pos h]; exact hX h
  · rw [dif_neg h]; exact hY h

end

end Cert.Proof

end
-- ==== Proof.Sched.lean ====
/-
  The schedule of the protocol between devices: the values each chunk takes, the duties, amounts and payloads of every
  cell with the contents a landing hands over, what each device owes, and the levels of the waits.
-/
module

public import proofs.«01_k».proof.Proof.Steps

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Values -/

section Values
variable (A : Dev nD → Vec F S1024x8192 .bf16) (B : Dev nD → Vec F S2048x8192 .bf16)

/-- Rows of chunk k of a device's w. -/
def Wc (c : Dev nD) (k : Fin 8) : Vec F S256x8192 .bf16 := (wsrcM k).view.read (Elt F) (B c)
/-- The device's own partial product. -/
def Pv (c : Dev nD) (k : Fin 8) : Vec F S1024x256 .f32 := k0_pay2 (A c) (Wc B c k)
/-- The same, rounded, as it is sent along y. -/
def Ys (c : Dev nD) (k : Fin 8) : Vec F S1024x256 .bf16 := k0_pay3 (A c) (Wc B c k)
/-- The sum of the device's partial product and its y partner's. -/
def Qv (c : Dev nD) (k : Fin 8) : Vec F S1024x256 .f32 := k0_pay4 (Pv A B c k) (Ys A B (yN c) k)
/-- The same, rounded, as it is sent along z. -/
def Zs (c : Dev nD) (k : Fin 8) : Vec F S1024x256 .bf16 := k0_pay7 (k0_pay5 (Qv A B c k))
/-- What the device writes of its z partner's block. -/
def Zf (c : Dev nD) (k : Fin 8) : Vec F S1024x256 .f32 := k0_pay6 (Zs A B (zN c) k)
end Values

/-! ## Cells -/

abbrev barCell (c : Dev nD) : GSem nD τ sig := ((c : Thread nD τ), .reg barS)
abbrev dc (c : Dev nD) (s : DmaSem sig) : GSem nD τ sig := ((c : Thread nD τ), .dma s)

/-- The units a landing of a chunk pays. -/
def NR : ℕ := (yrM 0).view.dmaCredit
theorem NR_pos : 0 < NR := View.dmaCredit_pos _ (by decide)
theorem yrM_amount (k : Fin 8) (sm : DmaSem sig) : (yrM k).view.amount (.dma sm) = NR := rfl
theorem zrM_amount (k : Fin 8) (sm : DmaSem sig) : (zrM k).view.amount (.dma sm) = NR := rfl

/-- The landing slots of device c for the copies along y, at any contents, with their cells open at round zero. -/
def yPay (c : Dev nD) : sProp 𝕄 :=
  bigSep Finset.univ fun k : Fin 8 => iprop(ownAny c (yrM k).view ∗ reached ER (dc c (yrS k)) 0)
/-- The same for the copies along z. -/
def zPay (c : Dev nD) : sProp 𝕄 :=
  bigSep Finset.univ fun k : Fin 8 => iprop(ownAny c (zrM k).view ∗ reached ER (dc c (zrS k)) 0)

def rDuties : Role → ℕ → Finset Bool
  | .bar, r => if r = 0 then Finset.univ else ∅
  | .ys _, r => if r < 4 then {false} else ∅
  | .yr _, r => if r = 0 then {false} else ∅
  | .zs _, r => if r < 4 then {false} else ∅
  | .zr _, r => if r = 0 then {false} else ∅
  | .none, _ => ∅

section Schedule
variable (A : Dev nD → Vec F S1024x8192 .bf16) (B : Dev nD → Vec F S2048x8192 .bf16)

def rPay (c : Dev nD) : Role → Bool → sProp 𝕄
  | .bar, d => if d then zPay (zN c) else yPay (yN c)
  | .ys s, _ => ownAny c (ysM s).view
  | .yr k, _ => own c (yrM k).view (Ys A B (yN c) k)
  | .zs s, _ => ownAny c (zsM s).view
  | .zr k, _ => own c (zrM k).view (Zs A B (zN c) k)
  | .none, _ => iprop(emp)

def Rd : Rounds.Schedule (GSem nD τ sig) Bool 𝕄 where
  duties g r := if g.1.2 = .tc then rDuties (role g.2) r else ∅
  unitless _ := False
  amount g _ _ := if role g.2 = .bar then 1 else NR
  payload g _ d := rPay A B g.1.1 (role g.2) d
  amount_pos g _ _ _ := by
    by_cases h : role g.2 = .bar
    · rw [if_pos h]; exact Nat.one_pos
    · rw [if_neg h]; exact NR_pos

instance yPay_storable (c : Dev nD) : BI.Storable (upEmb : UEmb _ 𝕄) (yPay (F := F) c) := by
  unfold yPay; infer_instance
instance zPay_storable (c : Dev nD) : BI.Storable (upEmb : UEmb _ 𝕄) (zPay (F := F) c) := by
  unfold zPay; infer_instance

instance Rd_payload_storable (g : GSem nD τ sig) (r : ℕ) (d : Bool) :
    BI.Storable (upEmb : UEmb _ 𝕄) ((Rd (F := F) A B).payload g r d) := by
  show BI.Storable upEmb (rPay A B g.1.1 (role g.2) d)
  cases role g.2 <;> unfold rPay
  · dsimp only; split <;> infer_instance
  all_goals (dsimp only; infer_instance)

variable (c : Dev nD)

theorem duties_of {sm : SemLoc sig} {ρ : Role} (h : role sm = ρ) (r : ℕ) :
    (Rd A B).duties ((c : Thread nD τ), sm) r = rDuties ρ r := by
  subst h; show (if (c : Thread nD τ).2 = .tc then rDuties (role sm) r else ∅) = _; exact if_pos rfl
theorem payload_of {sm : SemLoc sig} {ρ : Role} (h : role sm = ρ) (r : ℕ) (d : Bool) :
    (Rd A B).payload ((c : Thread nD τ), sm) r d = rPay A B c ρ d := by
  subst h; rfl
theorem amount_of {sm : SemLoc sig} {ρ : Role} (h : role sm = ρ) (hb : ρ ≠ .bar) (r : ℕ) (d : Bool) :
    (Rd A B).amount ((c : Thread nD τ), sm) r d = NR := by
  subst h; exact if_neg hb
theorem amount_bar (r : ℕ) (d : Bool) : (Rd A B).amount (barCell c) r d = 1 := by
  show (if role (.reg barS) = .bar then 1 else NR) = 1; exact if_pos role_bar

/-- A cell's one duty in a round, read off its role. -/
theorem rest_of {sm : SemLoc sig} {ρ : Role} (h : role sm = ρ) (r : ℕ) (hd : rDuties ρ r = {false}) :
    bigSep ((Rd A B).duties ((c : Thread nD τ), sm) r \ ∅) (fun d => (Rd A B).payload ((c : Thread nD τ), sm) r d)
      = rPay A B c ρ false := by
  rw [Finset.sdiff_empty, duties_of A B c h, hd, bigSep_singleton, payload_of A B c h]
theorem expect_of {sm : SemLoc sig} {ρ : Role} (h : role sm = ρ) (hb : ρ ≠ .bar) (r : ℕ) (hd : rDuties ρ r = {false}) :
    (Rd A B).expect ((c : Thread nD τ), sm) r = NR := by
  unfold Schedule.expect Schedule.amountOf
  rw [duties_of A B c h, hd, Finset.sum_singleton, amount_of A B c h hb]
theorem expect_bar : (Rd A B).expect (barCell c) 0 = 2 := by
  unfold Schedule.expect Schedule.amountOf
  rw [duties_of A B c role_bar]
  show ∑ d : Bool, (Rd A B).amount (barCell c) 0 d = 2
  rw [Finset.sum_congr rfl fun d _ => amount_bar A B c 0 d]; rfl
theorem rest_bar : bigSep ((Rd A B).duties (barCell c) 0 \ ∅) (fun d => (Rd A B).payload (barCell c) 0 d)
    = iprop(zPay (zN c) ∗ yPay (F := F) (yN c)) := by
  rw [Finset.sdiff_empty, duties_of A B c role_bar]
  show bigSep (insert true {false}) _ = _
  rw [bigSep_insert (by decide), bigSep_singleton, payload_of A B c role_bar, payload_of A B c role_bar]
  rfl

end Schedule

/-! ## What a device owes; the levels of the waits -/

/-- The landings device c still owes its partners once chunks below a have been sent along y and below b along z. -/
def O (c : Dev nD) (a b : ℕ) : CellTallies nD τ sig Unit :=
  (∑ k : Fin 8, if a ≤ k.val then tallyAt (dc (yN c) (yrS k)) () NR else 0)
    + ∑ k : Fin 8, if b ≤ k.val then tallyAt (dc (zN c) (zrS k)) () NR else 0

theorem sum_peel {M : Type} [AddCommMonoid M] (f : Fin 8 → M) (k : Fin 8) :
    (∑ j : Fin 8, if k.val ≤ j.val then f j else 0) = (∑ j : Fin 8, if k.val + 1 ≤ j.val then f j else 0) + f k := by
  rw [← Finset.sum_erase_add _ _ (Finset.mem_univ k),
    ← Finset.sum_erase_add (f := fun j : Fin 8 => if k.val + 1 ≤ j.val then f j else 0) _ (Finset.mem_univ k),
    if_pos (Nat.le_refl _), if_neg (by omega), add_zero]
  congr 1
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]

theorem O_y (c : Dev nD) (k : Fin 8) (b : ℕ) : O c k.val b = O c (k.val + 1) b + tallyAt (dc (yN c) (yrS k)) () NR := by
  unfold O
  rw [sum_peel (fun j => tallyAt (dc (yN c) (yrS j)) () NR) k]
  exact add_right_comm _ _ _
theorem O_z (c : Dev nD) (k : Fin 8) (a : ℕ) : O c a k.val = O c a (k.val + 1) + tallyAt (dc (zN c) (zrS k)) () NR := by
  unfold O
  rw [sum_peel (fun j => tallyAt (dc (zN c) (zrS j)) () NR) k]
  exact (add_assoc _ _ _).symm
theorem O_done (c : Dev nD) {a b : ℕ} (ha : 8 ≤ a) (hb : 8 ≤ b) : O c a b = 0 := by
  unfold O
  rw [Finset.sum_eq_zero fun k _ => if_neg (by have := k.isLt; omega), Finset.sum_eq_zero fun k _ => if_neg (by have := k.isLt; omega), add_zero]

def L (g : GSem nD τ sig) : Finset Unit := if g.1.2 = .tc then {()} else ∅
def rLv : Role → ℕ
  | .bar => 1
  | .yr k => 2 * k.val + 2
  | .zr k => 2 * k.val + 3
  | _ => 0
def lv (g : GSem nD τ sig) (_ : Unit) : ℕ := rLv (role g.2)

theorem L_tc (c : Dev nD) (sm : SemLoc sig) : L ((c : Thread nD τ), sm) = {()} := if_pos rfl

/-- What is owed sits on landing cells of chunks not yet sent. -/
theorem O_mem (c : Dev nD) {a b : ℕ} {g : GSem nD τ sig} {u : Unit} (h : 0 < O c a b g u) :
    (∃ k : Fin 8, a ≤ k.val ∧ g = dc (yN c) (yrS k)) ∨ ∃ k : Fin 8, b ≤ k.val ∧ g = dc (zN c) (zrS k) := by
  by_contra hn
  have h1 : ∀ k : Fin 8, (if a ≤ k.val then tallyAt (dc (yN c) (yrS k)) () NR else 0 : CellTallies nD τ sig Unit) g u = 0 := fun k => by
    by_cases hk : a ≤ k.val
    · rw [if_pos hk, tallyAt_apply, if_neg]
      intro hg; exact hn (Or.inl ⟨k, hk, hg.1⟩)
    · rw [if_neg hk]; rfl
  have h2 : ∀ k : Fin 8, (if b ≤ k.val then tallyAt (dc (zN c) (zrS k)) () NR else 0 : CellTallies nD τ sig Unit) g u = 0 := fun k => by
    by_cases hk : b ≤ k.val
    · rw [if_pos hk, tallyAt_apply, if_neg]
      intro hg; exact hn (Or.inr ⟨k, hk, hg.1⟩)
    · rw [if_neg hk]; rfl
  have hadd : ∀ f f' : CellTallies nD τ sig Unit, f g u = 0 → f' g u = 0 → (f + f') g u = 0 := fun f f' hf hf' => by
    show (f g + f' g) u = 0
    rw [Finsupp.add_apply, hf, hf']
  refine absurd h (Nat.not_lt.mpr (Nat.le_of_eq ?_))
  exact hadd _ _ (Finset.sum_induction _ (fun f : CellTallies nD τ sig Unit => f g u = 0) hadd rfl fun k _ => h1 k)
    (Finset.sum_induction _ (fun f : CellTallies nD τ sig Unit => f g u = 0) hadd rfl fun k _ => h2 k)

/-- A wait on one of its own cells of level below everything device c owes. -/
theorem mayWait (c : Dev nD) (sm : SemLoc sig) {a b : ℕ} (ha : rLv (role sm) < 2 * a + 2) (hb : rLv (role sm) < 2 * b + 3) :
    (levAts L lv : sProp 𝕄) ⊢ MayWait (c : Thread nD τ) sm () (O c a b) :=
  MayOwe.of_cut (L := L) (lev := lv) (rLv (role sm))
    (fun p hp => by rw [Finset.mem_singleton.mp hp, L_tc]; exact Finset.mem_singleton_self _)
    (fun g u hg => by
      obtain ⟨k, _, rfl⟩ | ⟨k, _, rfl⟩ := O_mem c hg <;> (rw [L_tc]; exact Finset.mem_singleton_self _))
    (fun p hp => by rw [Finset.mem_singleton.mp hp]; exact Nat.le_refl _)
    (fun g u hg => by
      obtain ⟨k, hk, rfl⟩ | ⟨k, hk, rfl⟩ := O_mem c hg
      · show _ < rLv (role _); rw [role_yr]; show _ < 2 * k.val + 2; omega
      · show _ < rLv (role _); rw [role_zr]; show _ < 2 * k.val + 3; omega)

end Cert.Proof

end
-- ==== Proof.State.lean ====
/-
  The state of the pipeline before each phase: for every chunk, what the device holds of it, as a function of how many
  chunks have been computed (a), reduced (b) and gathered (g).
-/
module

public import proofs.«01_k».proof.Proof.Sched

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Changing a family at one or two chunks -/

/-- A family changed at chunk k only. -/
theorem fam1 (k : Fin 8) (Φ Ψ : Fin 8 → sProp 𝕄) (h : ∀ j, j ≠ k → Φ j = Ψ j) :
    bigSep Finset.univ Φ ⊢ iprop(Φ k ∗ (Ψ k -∗ bigSep Finset.univ Ψ)) := by
  exact bigSep_univ_update k fun j hj => (h j hj).symm

/-- A family changed at chunks k and i only. -/
theorem fam2 (k i : Fin 8) (hki : i ≠ k) (Φ Ψ : Fin 8 → sProp 𝕄) (h : ∀ j, j ≠ k → j ≠ i → Φ j = Ψ j) :
    bigSep Finset.univ Φ ⊢ iprop(Φ k ∗ Φ i ∗ (Ψ k -∗ Ψ i -∗ bigSep Finset.univ Ψ)) := by
  have hi : i ∈ Finset.univ.erase k := Finset.mem_erase.mpr ⟨hki, Finset.mem_univ i⟩
  rw [bigSep_erase (Finset.mem_univ k) (Φ := Φ), bigSep_erase (Finset.mem_univ k) (Φ := Ψ),
    bigSep_erase hi (Φ := Φ), bigSep_erase hi (Φ := Ψ),
    bigSep_congr (Φ := Φ) (Ψ := Ψ) fun j hj => h j (Finset.mem_erase.mp (Finset.mem_erase.mp hj).2).1 (Finset.mem_erase.mp hj).1]
  show iprop(Φ k ∗ Φ i ∗ bigSep ((Finset.univ.erase k).erase i) Ψ) ⊢ iprop(Φ k ∗ Φ i ∗ (Ψ k -∗ Ψ i -∗ iprop(Ψ k ∗ Ψ i ∗ bigSep ((Finset.univ.erase k).erase i) Ψ)))
  iintro ⟨H, H', Hr⟩
  isplitl [H]; · iexact H
  isplitl [H']; · iexact H'
  iintro H H'
  isplitl [H]; · iexact H
  isplitl [H']; · iexact H'
  iexact Hr

/-! ## The cells of the protocol -/

/-- The scoped cells that go by rounds, by number. -/
def scS (i : Fin 20) : DmaSem sig := ⟨i.val + 3, by have := i.isLt; show _ < 27; omega⟩
def barEmb : Dev nD ↪ GSem nD τ sig := ⟨fun c => barCell c, fun a b h => by
  have := congrArg (fun g : GSem nD τ sig => g.1.1) h; exact this⟩
def scEmb : Dev nD × Fin 20 ↪ GSem nD τ sig := ⟨fun p => dc p.1 (scS p.2), fun a b h => by
  have h1 : a.1 = b.1 := congrArg (fun g : GSem nD τ sig => g.1.1) h
  have h2 : (SemLoc.dma (scS a.2) : SemLoc sig) = .dma (scS b.2) := congrArg (fun g : GSem nD τ sig => g.2) h
  injection h2 with h2
  have h3 : a.2.val + 3 = b.2.val + 3 := congrArg Fin.val h2
  exact Prod.ext h1 (Fin.ext (by omega))⟩
/-- The barrier cells, and the scoped ones. -/
def Sbar : Finset (GSem nD τ sig) := Finset.univ.map barEmb
def Ssc : Finset (GSem nD τ sig) := Finset.univ.map scEmb

theorem mem_bar (c : Dev nD) : barCell c ∈ Sbar ∪ Ssc :=
  Finset.mem_union_left _ (Finset.mem_map.mpr ⟨c, Finset.mem_univ _, rfl⟩)
theorem mem_sc (c : Dev nD) (s : DmaSem sig) (h1 : 3 ≤ s.val) (h2 : s.val < 23) : dc c s ∈ Sbar ∪ Ssc :=
  Finset.mem_union_right _ (Finset.mem_map.mpr ⟨(c, ⟨s.val - 3, by omega⟩), Finset.mem_univ _, by
    show dc c (scS _) = dc c s
    congr 1; exact Fin.ext (by show s.val - 3 + 3 = s.val; omega)⟩)

section State
variable (A : Dev nD → Vec F S1024x8192 .bf16) (B : Dev nD → Vec F S2048x8192 .bf16)

/-- The invariants of all the protocol's cells, at the names K. -/
def Ictx (K : GSem nD τ sig → ℕ) : sProp 𝕄 := bigSep (Sbar ∪ Ssc) fun g => cellInv ER (Rd A B) (K g) g

instance Ictx_persistent (K : GSem nD τ sig → ℕ) : BI.Persistent (Ictx A B K) := by unfold Ictx; infer_instance

theorem Ictx_get (K : GSem nD τ sig → ℕ) {g : GSem nD τ sig} (h : g ∈ Sbar ∪ Ssc) :
    Ictx A B K ⊢ cellInv ER (Rd A B) (K g) g := by
  unfold Ictx
  rw [bigSep_erase h]
  show iprop(cellInv ER (Rd A B) (K g) g ∗ bigSep ((Sbar ∪ Ssc).erase g) fun g => cellInv ER (Rd A B) (K g) g) ⊢ _
  iintro ⟨H, -⟩; iexact H

variable (c : Dev nD)

/-! ## Each chunk's state -/

def NW : ℕ := (wM 0).view.dmaCredit
def NO : ℕ := (outM 0 0).view.dmaCredit
theorem NW_pos : 0 < NW := View.dmaCredit_pos _ (by decide)
theorem NO_pos : 0 < NO := View.dmaCredit_pos _ (by decide)

/-- Chunk k's copy of rows of w, in flight. -/
def wFly (k : Fin 8) : sProp 𝕄 :=
  Flight EC (c : Thread nD τ) (.dma (wS (sl k))) () NW
    iprop(own c (wM (sl k)).view (Wc B c k) ∗ own c (wsrcM k).view (Wc B c k))
/-- An idle slot for rows of w. -/
def wIdle (k : Fin 8) : sProp 𝕄 := iprop(ownAny c (wM (sl k)).view ∗ semVal (dc c (wS (sl k))) 0)
def wSt (a : ℕ) (k : Fin 8) : sProp 𝕄 :=
  if k.val < a then iprop(own c (wsrcM k).view (Wc B c k) ∗ if k.val < 6 then iprop(emp) else wIdle c k)
  else if k.val < a + 2 then wFly B c k else own c (wsrcM k).view (Wc B c k)

/-- Chunk k's block of the result on its way out of the buffer of partial products. -/
def oyFly (k : Fin 8) : sProp 𝕄 :=
  Flight EC (c : Thread nD τ) (.dma (oyS (sl k))) () NO
    iprop(own c (outM (own₀ c) k).view (Qv A B c k) ∗ own c (pM (sl k)).view (Qv A B c k))
def pIdle (k : Fin 8) : sProp 𝕄 := iprop(ownAny c (pM (sl k)).view ∗ semVal (dc c (oyS (sl k))) 0)
def pSt (a b : ℕ) (k : Fin 8) : sProp 𝕄 :=
  if a ≤ k.val then iprop(ownAny c (outM (own₀ c) k).view ∗ if k.val < 2 then pIdle c k else iprop(emp))
  else if b ≤ k.val then
    iprop(ownAny c (outM (own₀ c) k).view ∗ own c (pM (sl k)).view (Pv A B c k) ∗ semVal (dc c (oyS (sl k))) 0)
  else if a ≤ k.val + 2 then oyFly A B c k
  else own c (outM (own₀ c) k).view (Qv A B c k)

/-- A slot sent along y and its cell, before chunk k's copy. -/
def ysIdle (k : Fin 8) : sProp 𝕄 :=
  iprop(ownAny c (ysM (sl k)).view ∗ atPos ER (dc c (ysS (sl k))) (k.val / 2) ∅ 0 ∗ reached ER (dc c (ysS (sl k))) (k.val / 2))
def ysSt (a : ℕ) (k : Fin 8) : sProp 𝕄 :=
  if a ≤ k.val then
    iprop((dutyTok ER (dc c (ysS (sl k))) (k.val / 2) false ∗ dutyTok ER (dc (yN c) (yrS k)) 0 false
      ∗ ownAny (yN c) (yrM k).view ∗ reached ER (dc (yN c) (yrS k)) 0) ∗ if k.val < 2 then ysIdle c k else iprop(emp))
  else if a ≤ k.val + 2 then
    iprop(cred (tallyAt (dc c (ysS (sl k))) () NR) ∗ atPos ER (dc c (ysS (sl k))) (k.val / 2) ∅ 0)
  else iprop(emp)

def yrSt (b : ℕ) (k : Fin 8) : sProp 𝕄 :=
  if b ≤ k.val then iprop(atPos ER (dc c (yrS k)) 0 ∅ 0 ∗ cred (tallyAt (dc c (yrS k)) () NR))
  else iprop(atPos ER (dc c (yrS k)) (0 + 1) ∅ 0 ∗ ownAny c (yrM k).view)

def zsIdle (k : Fin 8) : sProp 𝕄 :=
  iprop(ownAny c (zsM (sl k)).view ∗ atPos ER (dc c (zsS (sl k))) (k.val / 2) ∅ 0 ∗ reached ER (dc c (zsS (sl k))) (k.val / 2))
def zsSt (b : ℕ) (k : Fin 8) : sProp 𝕄 :=
  if b ≤ k.val then
    iprop((dutyTok ER (dc c (zsS (sl k))) (k.val / 2) false ∗ dutyTok ER (dc (zN c) (zrS k)) 0 false
      ∗ ownAny (zN c) (zrM k).view ∗ reached ER (dc (zN c) (zrS k)) 0) ∗ if k.val < 2 then zsIdle c k else iprop(emp))
  else if b ≤ k.val + 2 then
    iprop(cred (tallyAt (dc c (zsS (sl k))) () NR) ∗ atPos ER (dc c (zsS (sl k))) (k.val / 2) ∅ 0)
  else iprop(emp)

def zrSt (g : ℕ) (k : Fin 8) : sProp 𝕄 :=
  if g ≤ k.val then iprop(atPos ER (dc c (zrS k)) 0 ∅ 0 ∗ cred (tallyAt (dc c (zrS k)) () NR))
  else iprop(atPos ER (dc c (zrS k)) (0 + 1) ∅ 0 ∗ ownAny c (zrM k).view)

def ozFly (k : Fin 8) : sProp 𝕄 :=
  Flight EC (c : Thread nD τ) (.dma (ozS (sl k))) () NO
    iprop(own c (outM (oth c) k).view (Zf A B c k) ∗ own c (zfM (sl k)).view (Zf A B c k))
def zfIdle (k : Fin 8) : sProp 𝕄 := iprop(ownAny c (zfM (sl k)).view ∗ semVal (dc c (ozS (sl k))) 0)
def ozSt (g : ℕ) (k : Fin 8) : sProp 𝕄 :=
  if g ≤ k.val then iprop(ownAny c (outM (oth c) k).view ∗ if k.val < 2 then zfIdle c k else iprop(emp))
  else if g ≤ k.val + 2 then ozFly A B c k
  else own c (outM (oth c) k).view (Zf A B c k)

/-- What a device owes, with the waits it has recorded. -/
def owing (a b : ℕ) : sProp 𝕄 := iprop(∃ W, owes (c : Thread nD τ) (O c a b) W)

/-- The whole state. -/
def St (K : GSem nD τ sig → ℕ) (a b g : ℕ) : sProp 𝕄 :=
  iprop(Ictx A B K ∗ levAts L lv ∗ own c dyM.view (A c)
    ∗ bigSep Finset.univ (wSt B c a) ∗ bigSep Finset.univ (pSt A B c a b) ∗ bigSep Finset.univ (ysSt c a)
    ∗ bigSep Finset.univ (yrSt c b) ∗ bigSep Finset.univ (zsSt c b) ∗ bigSep Finset.univ (zrSt c g)
    ∗ bigSep Finset.univ (ozSt A B c g) ∗ owing c a b)

end State

end Cert.Proof

end
-- ==== Proof.Rules.lean ====
/-
  The rules of the protocol's operations over the pipeline's state: waiting for a local copy, waiting for a landing,
  sending to a partner; and what each phase takes out of the families of chunks.
-/
module

public import proofs.«01_k».proof.Proof.State

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

theorem ysS_lt (s : Fin 2) : (ysS s).val < 23 := by revert s; decide
theorem zsS_lt (s : Fin 2) : (zsS s).val < 23 := by revert s; decide
theorem yrS_lt (k : Fin 8) : (yrS k).val < 23 := by revert k; decide
theorem zrS_lt (k : Fin 8) : (zrS k).val < 23 := by revert k; decide
theorem ysS_ge (s : Fin 2) : 3 ≤ (ysS s).val := by revert s; decide
theorem zsS_ge (s : Fin 2) : 3 ≤ (zsS s).val := by revert s; decide
theorem yrS_ge (k : Fin 8) : 3 ≤ (yrS k).val := by revert k; decide
theorem zrS_ge (k : Fin 8) : 3 ≤ (zrS k).val := by revert k; decide

section
variable {α : Type} {Q : α → sProp (MT nD τ sig Unit (Elt F) ℕ UU ℕ)}
variable (A : Dev nD → Vec F S1024x8192 .bf16) (B : Dev nD → Vec F S2048x8192 .bf16) (c : Dev nD)
variable {sp sp' : Space} {s : Shape} {e : EltTy}

section Slots
variable {cs : CoreSpace} {s₀ : Shape} {m : Memref sig .tc cs s₀ e} {off off' size : Fin s₀.rank → ℕ}
  {p : ∀ a, off a + size a ≤ s₀.size a} {p' : ∀ a, off' a + size a ≤ s₀.size a} {hs : ∀ a, (Rect.unit (s := s₀) off' size p').stride a = 1}

/-- A load at a computed rectangle, of known value. -/
theorem wp_loadSlot (h : off = off') {hl : m.view.LoadsAt (Rect.unit (s := s₀) off size p).toLoadRect}
    {k : ((Rect.unit (s := s₀) off size p).shape.Idx → Elt F e) → Prog (TpuEff nD τ sig (Elt F) Λ₀ .tc) α}
    {w : (Rect.unit (s := s₀) off' size p').shape.Idx → Elt F e} :
    own c (m.slice (Rect.unit (s := s₀) off' size p') hs).view w
      ⊢ iprop((own c (m.slice (Rect.unit (s := s₀) off' size p') hs).view w
          -∗ wp frame (wpE (defs₀ (F := F)) 𝒱₀ (c : Thread nD τ) none) Set.univ (k w) Q)
      -∗ wp frame (wpE (defs₀ (F := F)) 𝒱₀ (c : Thread nD τ) none) Set.univ
          (.op (.load m (Rect.unit (s := s₀) off size p).toLoadRect hl) k) Q) := by
  subst h; exact wp_loadOwn c rfl
/-- A load at a computed rectangle, of a value nobody uses. -/
theorem wp_loadSlotAny (h : off = off') {hl : m.view.LoadsAt (Rect.unit (s := s₀) off size p).toLoadRect}
    {k : ((Rect.unit (s := s₀) off size p).shape.Idx → Elt F e) → Prog (TpuEff nD τ sig (Elt F) Λ₀ .tc) α} :
    ownAny c (m.slice (Rect.unit (s := s₀) off' size p') hs).view
      ⊢ iprop((∀ w, ownAny c (m.slice (Rect.unit (s := s₀) off' size p') hs).view
          -∗ wp frame (wpE (defs₀ (F := F)) 𝒱₀ (c : Thread nD τ) none) Set.univ (k w) Q)
      -∗ wp frame (wpE (defs₀ (F := F)) 𝒱₀ (c : Thread nD τ) none) Set.univ
          (.op (.load m (Rect.unit (s := s₀) off size p).toLoadRect hl) k) Q) := by
  subst h; exact wp_loadAny c rfl
/-- A store over a computed rectangle. -/
theorem wp_storeSlot (h : off = off') {w : (Rect.unit (s := s₀) off size p).shape.Idx → Elt F e}
    {hx : (m.access (Rect.unit (s := s₀) off size p)).Stores Finset.univ}
    {hm : Finset.univ = Finset.univ ∨ ∀ a, (Rect.unit (s := s₀) off size p).stride a = 1}
    {k : PUnit → Prog (TpuEff nD τ sig (Elt F) Λ₀ .tc) α} :
    ownAny c (m.slice (Rect.unit (s := s₀) off' size p') hs).view
      ⊢ iprop((own c (m.slice (Rect.unit (s := s₀) off' size p') hs).view w
          -∗ wp frame (wpE (defs₀ (F := F)) 𝒱₀ (c : Thread nD τ) none) Set.univ (k ⟨⟩) Q)
      -∗ wp frame (wpE (defs₀ (F := F)) 𝒱₀ (c : Thread nD τ) none) Set.univ
          (.op (.store m (Rect.unit (s := s₀) off size p) w Finset.univ hx hm) k) Q) := by
  subst h; exact wp_storeOwn c rfl

end Slots

/-- A wait for a local copy, by a device that owes the landings of later chunks. -/
theorem wp_waitHere {κ' : Kind} {s' : Shape} {e' : EltTy} {srcw : Memref sig .tc sp' s' e'} {dstw : Memref sig κ' sp s e} {sem sem' : DmaSem sig}
    {hsrc : srcw.view.WordExact} {hdst : dstw.view.WordExact} {k : PUnit → Prog (TpuEff nD τ sig (Elt F) Λ₀ .tc) α}
    (hsm : sem = sem') (hρ : role (.dma sem') = .none) (N : ℕ) (hN : dstw.view.dmaCredit = N)
    {D : sProp (MT nD τ sig Unit (Elt F) ℕ UU ℕ)} {a b : ℕ} :
    iprop(levAts L lv ∗ Flight EC (c : Thread nD τ) (.dma sem') () N D ∗ owing c a b)
      ⊢ iprop((iprop(D ∗ semVal (dc c sem') 0 ∗ owing c a b)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem srcw dstw hsrc hdst) k) Q) := by
  iintro ⟨Hl, Hf, HO⟩
  unfold owing
  iapply (wp_waitOwn c hsm N hN)
  isplitl [Hf]; · iexact Hf
  isplitl [HO]; · iexact HO
  iapply (mayWait c _ (by rw [hρ]; show 0 < _; omega) (by rw [hρ]; show 0 < _; omega))
  iexact Hl

/-- A wait for a landing, or for the source of a copy to a partner to have been read: it hands over the round's payload. -/
theorem wp_waitRound (K : GSem nD τ sig → ℕ) {κ' : Kind} {s' : Shape} {e' : EltTy} {srcw : Memref sig .tc sp' s' e'} {dstw : Memref sig κ' sp s e} {sem sem' : DmaSem sig}
    {hsrc : srcw.view.WordExact} {hdst : dstw.view.WordExact} {k : PUnit → Prog (TpuEff nD τ sig (Elt F) Λ₀ .tc) α}
    (hsm : sem = sem') (h3 : 3 ≤ sem'.val) (h23 : sem'.val < 23) {ρ : Role} (hρ : role (.dma sem') = ρ) (hb : ρ ≠ .bar) (r : ℕ)
    (hd : rDuties ρ r = {false}) (hN : dstw.view.dmaCredit = NR) {a b : ℕ} (hla : rLv ρ < 2 * a + 2) (hlb : rLv ρ < 2 * b + 3)
    {P : sProp (MT nD τ sig Unit (Elt F) ℕ UU ℕ)} (hP : rPay A B c ρ false = P) :
    iprop(Ictx A B K ∗ levAts L lv ∗ cred (tallyAt (dc c sem') () NR) ∗ atPos ER (dc c sem') r ∅ 0 ∗ owing c a b)
      ⊢ iprop((iprop(owing c a b ∗ atPos ER (dc c sem') (r + 1) ∅ 0 ∗ reached ER (dc c sem') (r + 1) ∗ P)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem srcw dstw hsrc hdst) k) Q) := by
  subst hsm
  have hk : (0 : ℕ) + NR = (Rd A B).expect (dc c sem) r := by rw [expect_of A B c hρ hb r hd, Nat.zero_add]
  iintro ⟨HI, Hl, Hc, Ha, HO⟩ Hk
  unfold owing
  icases HO with ⟨%W, HO⟩
  iapply (wp_wait_rest_token (c := (c : Thread nD τ)) 𝒱₀ ER (Rd A B) none
    (fun K' => by rw [← hN]; exact wpE_waitDma2_eq 𝒱₀ (c : Thread nD τ) none Set.univ K') (Set.mem_univ (K (dc c sem))) () hk) $$ [HI Hl Hc Ha HO]
  · isplitl [HI]; · iapply (Ictx_get A B K (mem_sc c sem h3 h23)) $$ HI
    isplitl [Hc]; · iexact Hc
    isplitl [HO]; · iexact HO
    isplitl [Hl]
    · iapply (mayWait c _ (by rw [hρ]; exact hla) (by rw [hρ]; exact hlb))
      iexact Hl
    iexact Ha
  rw [rest_of A B c hρ r hd, hP]
  iintro ⟨HO, Ha, Hr, Hp⟩
  iapply Hk
  isplitl [HO]; · iexists _; iexact HO
  isplitl [Ha]; · iexact Ha
  isplitl [Hr]; · iexact Hr
  iexact Hp

/-- A copy of a window of known value to a partner's landing slot. -/
theorem wp_sendOwn (K : GSem nD τ sig → ℕ) {x x' : Dev nD} {src src' : Memref sig .tc sp s e} {dst dst' : Memref sig .tc sp' s e}
    {sS sS' sem sem' : DmaSem sig} {hsc : dst.view.ref.isScScratch = false}
    {hsrc : src.view.WordExact} {hdst : dst.view.WordExact}
    {hsem : DmaTarget.Typed (nD := nD) (τ := τ) sp (.dma sem) (DmaTarget.remote (p := (.tc : Proc τ)) (x : Thread nD τ) dst (.dma sS) hsc)}
    {k : PUnit → Prog (TpuEff nD τ sig (Elt F) Λ₀ .tc) α}
    (hx : x = x') (hs : src = src') (hd : dst = dst') (hsS : sS = sS') (hsm : sem = sem')
    (h3 : 3 ≤ sS'.val) (h23 : sS'.val < 23) (h3' : 3 ≤ sem'.val) (h23' : sem'.val < 23)
    {ρ₁ ρ₂ : Role} (hρ₁ : role (.dma sS') = ρ₁) (hρ₂ : role (.dma sem') = ρ₂) (hb₁ : ρ₁ ≠ .bar) (hb₂ : ρ₂ ≠ .bar) (r₁ r₂ : ℕ)
    (hd₁ : rDuties ρ₁ r₁ = {false}) (hd₂ : rDuties ρ₂ r₂ = {false}) (hN : dst'.view.amount (.dma sem') = NR)
    {a b a' b' : ℕ} (hO : O c a b = O c a' b' + tallyAt (dc x' sem') () NR) {w : s.Idx → Elt F e}
    (hp₁ : own c src'.view w ⊢ rPay A B c ρ₁ false) (hp₂ : own x' dst'.view w ⊢ rPay A B x' ρ₂ false) :
    iprop(Ictx A B K ∗ own c src'.view w ∗ ownAny x' dst'.view ∗ owing c a b ∗ dutyTok ER (dc c sS') r₁ false ∗ reached ER (dc c sS') r₁
        ∗ dutyTok ER (dc x' sem') r₂ false ∗ reached ER (dc x' sem') r₂)
      ⊢ iprop((iprop(cred (tallyAt (dc c sS') () NR) ∗ owing c a' b')
          -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (x : Thread nD τ) dst (.dma sS) hsc) (.dma sem) hsrc hdst hsem) k) Q) := by
  subst hx; subst hs; subst hd; subst hsS; subst hsm
  iintro ⟨#HI, Hs, Hd, HO, Ht₁, Hr₁, Ht₂, Hr₂⟩ Hk
  unfold ownAny owing
  unfold own at *
  icases Hs with ⟨%f, %hf, Hs⟩
  icases Hd with ⟨%g, Hd⟩
  icases HO with ⟨%W, HO⟩
  iapply (wp_send_pointsTo (c := (c : Thread nD τ)) 𝒱₀ ER (Rd A B) none (κ₁ := K (dc c sS)) (κ₂ := K (dc x sem)) (r₁ := r₁) (r₂ := r₂)
    (d₁ := false) (d₂ := false)
    (by rw [duties_of A B c hρ₁, hd₁]; exact Finset.mem_singleton_self _) (by rw [duties_of A B x hρ₂, hd₂]; exact Finset.mem_singleton_self _)
    () () NR hN (amount_of A B c hρ₁ hb₁ _ _) (amount_of A B x hρ₂ hb₂ _ _) (O c a' b') hO ?_ ?_) $$ [Hs Hd HO Ht₁ Hr₁ Ht₂ Hr₂]
  · rw [payload_of A B c hρ₁]
    refine .trans ?_ hp₁
    iintro H; iexists f
    isplitr; · ipureintro; exact hf
    iexact H
  · rw [payload_of A B x hρ₂]
    refine .trans ?_ hp₂
    iintro H; iexists (dst.view.write (Elt F) g (src.view.read (Elt F) f) Finset.univ)
    isplitr; rotate_left
    · iexact H
    · ipureintro; rw [View.read_write_univ]; exact hf
  · isplitr; · iapply (Ictx_get A B K (mem_sc c sS h3 h23)) $$ HI
    isplitr; · iapply (Ictx_get A B K (mem_sc x sem h3' h23')) $$ HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists _; iexact HO

end

end Cert.Proof

end
-- ==== Proof.Yields.lean ====
/-
  What each phase of a chunk takes out of the families of chunks, and what it puts back.
-/
module

public import proofs.«01_k».proof.Proof.Rules

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (A : Dev nD → Vec F S1024x8192 .bf16) (B : Dev nD → Vec F S2048x8192 .bf16) (c : Dev nD)

theorem val_ne {k j : Fin 8} (h : j ≠ k) : j.val ≠ k.val := fun e => h (Fin.ext e)
theorem sl_eq {i k : Fin 8} (h : i.val + 2 = k.val) : sl i = sl k := Fin.ext (by show i.val % 2 = k.val % 2; omega)
theorem half_eq {i k : Fin 8} (h : i.val + 2 = k.val) : i.val / 2 + 1 = k.val / 2 := by omega

/-- A family changed at one chunk, its two states there named. -/
theorem fam1' (k : Fin 8) {Φ Ψ : Fin 8 → sProp (MT nD τ sig Unit (Elt F) ℕ UU ℕ)} {X Y : sProp (MT nD τ sig Unit (Elt F) ℕ UU ℕ)}
    (h : ∀ j : Fin 8, j.val ≠ k.val → Φ j = Ψ j) (hX : Φ k = X) (hY : Ψ k = Y) :
    bigSep Finset.univ Φ ⊢ iprop(X ∗ (Y -∗ bigSep Finset.univ Ψ)) := by
  subst hX; subst hY; exact fam1 k Φ Ψ fun j hj => h j (val_ne hj)
/-- A family changed at two chunks, its states there named. -/
theorem fam2' (k i : Fin 8) (hki : i.val ≠ k.val) {Φ Ψ : Fin 8 → sProp (MT nD τ sig Unit (Elt F) ℕ UU ℕ)}
    {X Y X' Y' : sProp (MT nD τ sig Unit (Elt F) ℕ UU ℕ)}
    (h : ∀ j : Fin 8, j.val ≠ k.val → j.val ≠ i.val → Φ j = Ψ j) (hX : Φ k = X) (hX' : Φ i = X') (hY : Ψ k = Y) (hY' : Ψ i = Y') :
    bigSep Finset.univ Φ ⊢ iprop(X ∗ X' ∗ (Y -∗ Y' -∗ bigSep Finset.univ Ψ)) := by
  subst hX; subst hY; subst hX'; subst hY'
  exact fam2 k i (fun e => hki (congrArg Fin.val e)) Φ Ψ fun j hj hj' => h j (val_ne hj) (val_ne hj')

/-! ## Rows of w -/

theorem w_lt (k i : Fin 8) (hi : k.val + 2 = i.val) :
    bigSep Finset.univ (wSt B c k.val) ⊢ iprop(wFly B c k ∗ own c (wsrcM i).view (Wc B c i)
      ∗ ((own c (wsrcM k).view (Wc B c k) ∗ emp) -∗ wFly B c i -∗ bigSep Finset.univ (wSt B c (k.val + 1)))) := by
  have := i.isLt
  refine fam2' k i (by omega) (fun j hj hj' => ?_) ?_ ?_ ?_ ?_ <;> unfold wSt <;> split_ifs <;> first | rfl | omega
theorem w_ge (k : Fin 8) (hk : 6 ≤ k.val) :
    bigSep Finset.univ (wSt B c k.val) ⊢ iprop(wFly B c k
      ∗ ((own c (wsrcM k).view (Wc B c k) ∗ wIdle c k) -∗ bigSep Finset.univ (wSt B c (k.val + 1)))) := by
  refine fam1' k (fun j hj => by have := j.isLt; unfold wSt; split_ifs <;> first | rfl | omega) ?_ ?_ <;> unfold wSt <;> split_ifs <;> first | rfl | omega

/-- What is left of the rows of w once chunk k's have been waited for. -/
def wRest (k : Fin 8) : sProp (MT nD τ sig Unit (Elt F) ℕ UU ℕ) :=
  if h : k.val + 2 < 8 then
    iprop(own c (wsrcM ⟨k.val + 2, h⟩).view (Wc B c ⟨k.val + 2, h⟩)
      ∗ ((own c (wsrcM k).view (Wc B c k) ∗ emp) -∗ wFly B c ⟨k.val + 2, h⟩ -∗ bigSep Finset.univ (wSt B c (k.val + 1))))
  else iprop((own c (wsrcM k).view (Wc B c k) ∗ wIdle c k) -∗ bigSep Finset.univ (wSt B c (k.val + 1)))
theorem w_any (k : Fin 8) : bigSep Finset.univ (wSt B c k.val) ⊢ iprop(wFly B c k ∗ wRest B c k) := by
  unfold wRest
  by_cases h : k.val + 2 < 8
  · rw [dif_pos h]; exact w_lt B c k ⟨k.val + 2, h⟩ rfl
  · rw [dif_neg h]; exact w_ge B c k (by omega)

/-! ## The buffer of partial products, and the device's own blocks of the result -/

/-- Chunk k computed. -/
abbrev pHeld (k : Fin 8) : sProp (MT nD τ sig Unit (Elt F) ℕ UU ℕ) :=
  iprop(ownAny c (outM (own₀ c) k).view ∗ own c (pM (sl k)).view (Pv A B c k) ∗ semVal (dc c (oyS (sl k))) 0)

theorem p_lt (k : Fin 8) (hk : k.val < 2) :
    bigSep Finset.univ (pSt A B c k.val (k.val - 1)) ⊢ iprop((ownAny c (outM (own₀ c) k).view ∗ pIdle c k)
      ∗ (pHeld A B c k -∗ bigSep Finset.univ (pSt A B c (k.val + 1) (k.val - 1)))) := by
  refine fam1' k (fun j hj => ?_) ?_ ?_ <;> unfold pSt <;> split_ifs <;> first | rfl | omega
theorem p_ge (k i : Fin 8) (hi : i.val + 2 = k.val) :
    bigSep Finset.univ (pSt A B c k.val (k.val - 1)) ⊢ iprop((ownAny c (outM (own₀ c) k).view ∗ emp) ∗ oyFly A B c i
      ∗ (pHeld A B c k -∗ own c (outM (own₀ c) i).view (Qv A B c i) -∗ bigSep Finset.univ (pSt A B c (k.val + 1) (k.val - 1)))) := by
  refine fam2' k i (by omega) (fun j hj hj' => ?_) ?_ ?_ ?_ ?_ <;> unfold pSt <;> split_ifs <;> first | rfl | omega
theorem p_red (k : Fin 8) (a : ℕ) (ha : k.val < a) (ha' : a ≤ k.val + 2) :
    bigSep Finset.univ (pSt A B c a k.val) ⊢ iprop(pHeld A B c k
      ∗ (oyFly A B c k -∗ bigSep Finset.univ (pSt A B c a (k.val + 1)))) := by
  refine fam1' k (fun j hj => ?_) ?_ ?_ <;> unfold pSt <;> split_ifs <;> first | rfl | omega

/-! ## The copies along y -/

/-- What chunk k's copy along y needs besides its source. -/
abbrev yNeed (k : Fin 8) : sProp (MT nD τ sig Unit (Elt F) ℕ UU ℕ) :=
  iprop(dutyTok ER (dc c (ysS (sl k))) (k.val / 2) false ∗ dutyTok ER (dc (yN c) (yrS k)) 0 false
      ∗ ownAny (yN c) (yrM k).view ∗ reached ER (dc (yN c) (yrS k)) 0)
/-- Chunk k sent along y, its source not yet waited for. -/
abbrev ySent (k : Fin 8) : sProp (MT nD τ sig Unit (Elt F) ℕ UU ℕ) :=
  iprop(cred (tallyAt (dc c (ysS (sl k))) () NR) ∗ atPos ER (dc c (ysS (sl k))) (k.val / 2) ∅ 0)

theorem ys_lt (k : Fin 8) (hk : k.val < 2) :
    bigSep Finset.univ (ysSt c k.val) ⊢ iprop((yNeed (F := F) c k ∗ ysIdle c k)
      ∗ (ySent c k -∗ bigSep Finset.univ (ysSt c (k.val + 1)))) := by
  refine fam1' k (fun j hj => ?_) ?_ ?_ <;> unfold ysSt <;> split_ifs <;> first | rfl | omega
theorem ys_ge (k i : Fin 8) (hi : i.val + 2 = k.val) :
    bigSep Finset.univ (ysSt c k.val) ⊢ iprop((yNeed (F := F) c k ∗ emp) ∗ ySent c i
      ∗ (ySent c k -∗ emp -∗ bigSep Finset.univ (ysSt c (k.val + 1)))) := by
  refine fam2' k i (by omega) (fun j hj hj' => ?_) ?_ ?_ ?_ ?_ <;> unfold ysSt <;> split_ifs <;> first | rfl | omega
theorem yr_red (k : Fin 8) :
    bigSep Finset.univ (yrSt c k.val) ⊢ iprop((atPos ER (dc c (yrS k)) 0 ∅ 0 ∗ cred (tallyAt (dc c (yrS k)) () NR))
      ∗ ((atPos ER (dc c (yrS k)) (0 + 1) ∅ 0 ∗ ownAny (F := F) c (yrM k).view) -∗ bigSep Finset.univ (yrSt c (k.val + 1)))) := by
  refine fam1' k (fun j hj => ?_) ?_ ?_ <;> unfold yrSt <;> split_ifs <;> first | rfl | omega

/-! ## The copies along z -/

/-- What chunk k's copy along z needs besides its source. -/
abbrev zNeed (k : Fin 8) : sProp (MT nD τ sig Unit (Elt F) ℕ UU ℕ) :=
  iprop(dutyTok ER (dc c (zsS (sl k))) (k.val / 2) false ∗ dutyTok ER (dc (zN c) (zrS k)) 0 false
      ∗ ownAny (zN c) (zrM k).view ∗ reached ER (dc (zN c) (zrS k)) 0)
/-- Chunk k sent along z, its source not yet waited for. -/
abbrev zSent (k : Fin 8) : sProp (MT nD τ sig Unit (Elt F) ℕ UU ℕ) :=
  iprop(cred (tallyAt (dc c (zsS (sl k))) () NR) ∗ atPos ER (dc c (zsS (sl k))) (k.val / 2) ∅ 0)

theorem zs_lt (k : Fin 8) (hk : k.val < 2) :
    bigSep Finset.univ (zsSt c k.val) ⊢ iprop((zNeed (F := F) c k ∗ zsIdle c k)
      ∗ (zSent c k -∗ bigSep Finset.univ (zsSt c (k.val + 1)))) := by
  refine fam1' k (fun j hj => ?_) ?_ ?_ <;> unfold zsSt <;> split_ifs <;> first | rfl | omega
theorem zs_ge (k i : Fin 8) (hi : i.val + 2 = k.val) :
    bigSep Finset.univ (zsSt c k.val) ⊢ iprop((zNeed (F := F) c k ∗ emp) ∗ zSent c i
      ∗ (zSent c k -∗ emp -∗ bigSep Finset.univ (zsSt c (k.val + 1)))) := by
  refine fam2' k i (by omega) (fun j hj hj' => ?_) ?_ ?_ ?_ ?_ <;> unfold zsSt <;> split_ifs <;> first | rfl | omega
theorem zr_gat (k : Fin 8) :
    bigSep Finset.univ (zrSt c k.val) ⊢ iprop((atPos ER (dc c (zrS k)) 0 ∅ 0 ∗ cred (tallyAt (dc c (zrS k)) () NR))
      ∗ ((atPos ER (dc c (zrS k)) (0 + 1) ∅ 0 ∗ ownAny (F := F) c (zrM k).view) -∗ bigSep Finset.univ (zrSt c (k.val + 1)))) := by
  refine fam1' k (fun j hj => ?_) ?_ ?_ <;> unfold zrSt <;> split_ifs <;> first | rfl | omega

/-! ## The buffer of gathered blocks, and the z partner's blocks of the result -/

theorem oz_lt (k : Fin 8) (hk : k.val < 2) :
    bigSep Finset.univ (ozSt A B c k.val) ⊢ iprop((ownAny c (outM (oth c) k).view ∗ zfIdle c k)
      ∗ (ozFly A B c k -∗ bigSep Finset.univ (ozSt A B c (k.val + 1)))) := by
  refine fam1' k (fun j hj => ?_) ?_ ?_ <;> unfold ozSt <;> split_ifs <;> first | rfl | omega
theorem oz_ge (k i : Fin 8) (hi : i.val + 2 = k.val) :
    bigSep Finset.univ (ozSt A B c k.val) ⊢ iprop((ownAny c (outM (oth c) k).view ∗ emp) ∗ ozFly A B c i
      ∗ (ozFly A B c k -∗ own c (outM (oth c) i).view (Zf A B c i) -∗ bigSep Finset.univ (ozSt A B c (k.val + 1)))) := by
  refine fam2' k i (by omega) (fun j hj hj' => ?_) ?_ ?_ ?_ ?_ <;> unfold ozSt <;> split_ifs <;> first | rfl | omega

end Cert.Proof

end
-- ==== Proof.Body.lean ====
/-
  The three parts of a trip: computing a chunk, reducing it, gathering it.
-/
module

public import proofs.«01_k».proof.Proof.Yields

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (A : Dev nD → Vec F S1024x8192 .bf16) (B : Dev nD → Vec F S2048x8192 .bf16) (c : Dev nD)
variable (K : GSem nD τ sig → ℕ)

/-- The place for chunk k's partial product free, along with the source of its copy along y. -/
def frontOut (k : Fin 8) : sProp (MT nD τ sig Unit (Elt F) ℕ UU ℕ) :=
  iprop(ownAny c (outM (own₀ c) k).view ∗ pIdle c k ∗ (pHeld A B c k -∗ bigSep Finset.univ (pSt A B c (k.val + 1) (k.val - 1)))
    ∗ yNeed c k ∗ ysIdle c k ∗ (ySent c k -∗ bigSep Finset.univ (ysSt c (k.val + 1))) ∗ owing c k.val (k.val - 1))

/-- What is left of the compute phase after its part: the copy along y. -/
def computed (k : Fin 8) : sProp (MT nD τ sig Unit (Elt F) ℕ UU ℕ) :=
  iprop(own c dyM.view (A c) ∗ bigSep Finset.univ (wSt B c (k.val + 1)) ∗ bigSep Finset.univ (pSt A B c (k.val + 1) (k.val - 1))
    ∗ own c (ysM (sl k)).view (Ys A B c k) ∗ atPos ER (dc c (ysS (sl k))) (k.val / 2) ∅ 0 ∗ reached ER (dc c (ysS (sl k))) (k.val / 2)
    ∗ yNeed c k ∗ (ySent c k -∗ bigSep Finset.univ (ysSt c (k.val + 1))) ∗ owing c k.val (k.val - 1))

theorem part1 (k : Fin 8) (h : k0_cond1 (tc k) = 1#1) (w19 w70 : BitVec 32) :
    iprop(Ictx A B K ∗ levAts L lv ∗ own c dyM.view (A c) ∗ bigSep Finset.univ (wSt B c k.val)
        ∗ bigSep Finset.univ (pSt A B c k.val (k.val - 1)) ∗ bigSep Finset.univ (ysSt c k.val) ∗ owing c k.val (k.val - 1))
      ⊢ wp frame (wpE (defs₀ (F := F)) 𝒱₀ (c : Thread nD τ) none) Set.univ (k0_part1 (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c (tc k) w19 w70 h)
          (fun _ => computed A B c k) := by
  rw [k0_part1_eq_skeleton]
  unfold k0_part1_skel
  have hk8 := k.isLt
  iintro ⟨#HI, #Hlv, Hdy, Hw, Hp, Hys, HO⟩
  unfold computed
  ihave Hw := (w_any B c k) $$ Hw
  icases Hw with ⟨Hf, Hw⟩
  unfold wFly
  iapply (wp_waitHere c (sem2_eq _ _ _ _ (off1_eq k) (by omega)) (role_w (sl k)) NW ?_) $$ [Hf HO]
  · rfl
  · isplitr; · iexact Hlv
    isplitl [Hf]; · iexact Hf
    iexact HO
  iintro ⟨⟨Hwm, Hws⟩, Hwv, HO⟩
  rw [ret_bind]
  extract_lets j
  iapply (wp_jp c j iprop(Ictx A B K ∗ levAts L lv ∗ bigSep Finset.univ (pSt A B c k.val (k.val - 1)) ∗ bigSep Finset.univ (ysSt c k.val)
    ∗ owing c k.val (k.val - 1)) (frontOut A B c k) ?_ ?_) $$ [Hp Hys HO]
  · intro h2
    have hk2 := (cond2_iff k).mp h2
    let i : Fin 8 := ⟨k.val - 2, by omega⟩
    have hi : i.val + 2 = k.val := by show k.val - 2 + 2 = k.val; omega
    iintro ⟨#HI, #Hlv, Hp, Hys, HO⟩ Hk
    ihave Hp := (p_ge A B c k i hi) $$ Hp
    icases Hp with ⟨⟨Hout, -⟩, Hf, Hp⟩
    ihave Hys := (ys_ge c k i hi) $$ Hys
    icases Hys with ⟨⟨Hn, -⟩, ⟨Hcr, Hat⟩, Hys⟩
    unfold oyFly
    rw [sl_eq hi]
    iapply (wp_waitHere c (sem2_eq _ _ _ _ (off4_eq k hk2) (by omega)) (role_oy (sl k)) NO ?_) $$ [Hf HO]
    · rfl
    · isplitr; · iexact Hlv
      isplitl [Hf]; · iexact Hf
      iexact HO
    iintro ⟨⟨Ho, Hpm⟩, Hv, HO⟩
    iapply (wp_waitRound A B c K (sem' := ysS (sl k)) (sem2_eq _ _ _ _ (off4_eq k hk2) (by omega)) (ysS_ge (sl k)) (ysS_lt (sl k))
      (role_ys (sl k)) nofun (i.val / 2) (if_pos (by omega)) ?_ (Nat.succ_pos _) (Nat.succ_pos _) (P := ownAny c (ysM (sl k)).view) rfl) $$ [Hcr Hat HO]
    · rfl
    · isplitr; · iexact HI
      isplitr; · iexact Hlv
      isplitl [Hcr]; · iexact Hcr
      isplitl [Hat]; · iexact Hat
      iexact HO
    iintro ⟨HO, Hat, Hr, Hpay⟩
    iapply Hk
    unfold frontOut pIdle ysIdle
    rw [← half_eq hi]
    isplitl [Hout]; · iexact Hout
    isplitl [Hpm Hv]
    · isplitl [Hpm]; · iapply (own_any _ _ _) $$ Hpm
      iexact Hv
    isplitl [Hp Ho]
    · iintro H; iapply Hp $$ H Ho
    isplitl [Hn]; · iexact Hn
    isplitl [Hpay Hat Hr]
    · isplitl [Hpay]; · iexact Hpay
      isplitl [Hat]; · iexact Hat
      iexact Hr
    isplitl [Hys]
    · iintro H; iapply Hys $$ H
      iempintro
    iexact HO
  · intro h2
    have hk2 : k.val < 2 := Nat.lt_of_not_le fun h => h2 ((cond2_iff k).mpr h)
    iintro ⟨-, -, Hp, Hys, HO⟩ Hk
    ihave Hp := (p_lt A B c k hk2) $$ Hp
    icases Hp with ⟨⟨Hout, Hi⟩, Hp⟩
    ihave Hys := (ys_lt c k hk2) $$ Hys
    icases Hys with ⟨⟨Hn, Hyi⟩, Hys⟩
    iapply Hk
    unfold frontOut
    isplitl [Hout]; · iexact Hout
    isplitl [Hi]; · iexact Hi
    isplitl [Hp]; · iexact Hp
    isplitl [Hn]; · iexact Hn
    isplitl [Hyi]; · iexact Hyi
    isplitl [Hys]; · iexact Hys
    iexact HO
  · isplitr; · iexact HI
    isplitr; · iexact Hlv
    isplitl [Hp]; · iexact Hp
    isplitl [Hys]; · iexact Hys
    iexact HO
  iintro HF
  iapply (wp_loadDy c (by decide)) $$ Hdy
  iintro Hdy
  iapply (wp_loadSlot c (off8_eq k)) $$ Hwm
  iintro Hwm
  rw [ret_bind]
  extract_lets j2
  iapply (wp_jp c j2 iprop(own c (wM (sl k)).view (Wc B c k) ∗ own c (wsrcM k).view (Wc B c k) ∗ semVal (dc c (wS (sl k))) 0 ∗ wRest B c k)
    (bigSep Finset.univ (wSt B c (k.val + 1))) ?_ ?_) $$ [Hwm Hws Hwv Hw]
  · intro h3
    have hk3 := (cond3_iff k).mp h3
    unfold wRest
    rw [dif_pos hk3]
    iintro ⟨Hwm, Hws, Hwv, Hsrc, Hw⟩ Hk
    iapply (wp_copyOwn c (src' := wsrcM ⟨k.val + 2, hk3⟩) (dst' := wM (sl k)) (sm' := wS (sl k)) (Memref.slice_unit_congr _ (off11_eq k hk3) _ _ _ _)
      (Memref.slice_unit_congr _ (off10_eq k hk3) _ _ _ _) (sem2_eq _ _ _ _ (off9_eq k hk3) (by omega)) NW rfl NW_pos) $$ [Hsrc Hwm Hwv]
    · isplitl [Hsrc]; · iexact Hsrc
      isplitl [Hwm]; · iapply (own_any _ _ _) $$ Hwm
      iexact Hwv
    iintro Hf
    iapply Hk
    unfold wFly
    rw [← sl_eq (show k.val + 2 = (⟨k.val + 2, hk3⟩ : Fin 8).val from rfl)]
    iapply Hw $$ [Hws] Hf
    isplitl [Hws]; · iexact Hws
    iempintro
  · intro h3
    have hk3 : ¬ k.val + 2 < 8 := fun h => h3 ((cond3_iff k).mpr h)
    unfold wRest
    rw [dif_neg hk3]
    iintro ⟨Hwm, Hws, Hwv, Hw⟩ Hk
    iapply Hk
    iapply Hw
    unfold wIdle
    isplitl [Hws]; · iexact Hws
    isplitl [Hwm]; · iapply (own_any _ _ _) $$ Hwm
    iexact Hwv
  · isplitl [Hwm]; · iexact Hwm
    isplitl [Hws]; · iexact Hws
    isplitl [Hwv]; · iexact Hwv
    iexact Hw
  iintro Hw
  unfold frontOut pIdle ysIdle
  icases HF with ⟨Hout, ⟨Hpm, Hv⟩, Hp, Hn, ⟨Hym, Hat, Hr⟩, Hys, HO⟩
  iapply (wp_loadSlotAny c (off12_eq k)) $$ Hpm
  iintro %w Hpm
  iapply (wp_storeSlot c (off12_eq k)) $$ Hpm
  iintro Hpm
  iapply (wp_loadSlotAny c (off12_eq k)) $$ Hym
  iintro %w' Hym
  iapply (wp_storeSlot c (off12_eq k)) $$ Hym
  iintro Hym
  rw [ret_bind, wp_pure]
  imodintro
  isplitl [Hdy]; · iexact Hdy
  isplitl [Hw]; · iexact Hw
  isplitl [Hp Hout Hpm Hv]
  · iapply Hp
    isplitl [Hout]; · iexact Hout
    isplitl [Hpm]; · iexact Hpm
    iexact Hv
  isplitl [Hym]; · iexact Hym
  isplitl [Hat]; · iexact Hat
  isplitl [Hr]; · iexact Hr
  isplitl [Hn]; · iexact Hn
  isplitl [Hys]; · iexact Hys
  iexact HO

/-- Chunk k reduced in place, its copies to the result and along z not yet started. -/
def reduced (k : Fin 8) (a : ℕ) : sProp (MT nD τ sig Unit (Elt F) ℕ UU ℕ) :=
  iprop(ownAny c (outM (own₀ c) k).view ∗ own c (pM (sl k)).view (Qv A B c k) ∗ semVal (dc c (oyS (sl k))) 0
    ∗ (oyFly A B c k -∗ bigSep Finset.univ (pSt A B c a (k.val + 1))) ∗ bigSep Finset.univ (yrSt c (k.val + 1))
    ∗ zNeed c k ∗ zsIdle c k ∗ (zSent c k -∗ bigSep Finset.univ (zsSt c (k.val + 1))) ∗ owing c a k.val)

/-- A free slot for chunk k's copy along z. -/
def frontZ (k : Fin 8) (a : ℕ) : sProp (MT nD τ sig Unit (Elt F) ℕ UU ℕ) :=
  iprop(zNeed c k ∗ zsIdle c k ∗ (zSent c k -∗ bigSep Finset.univ (zsSt c (k.val + 1))) ∗ owing c a k.val)

theorem part2 (k : Fin 8) (a : ℕ) (ha : k.val < a) (ha' : a ≤ k.val + 2) (h : k0_cond4 (tr k) = 1#1) (w2 w8 w9 w19 : BitVec 32) :
    iprop(Ictx A B K ∗ levAts L lv ∗ bigSep Finset.univ (pSt A B c a k.val) ∗ bigSep Finset.univ (yrSt c k.val)
        ∗ bigSep Finset.univ (zsSt c k.val) ∗ owing c a k.val)
      ⊢ wp frame (wpE (defs₀ (F := F)) 𝒱₀ (c : Thread nD τ) none) Set.univ (k0_part2 (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 w2 w8 w9 (tr k) w19 h)
          (fun r => iprop(⌜r.2.2.1 = k0_pay5 (Qv A B c k)⌝ ∗ reduced A B c k a)) := by
  rw [k0_part2_eq_skeleton]
  unfold k0_part2_skel
  have hk8 := k.isLt
  iintro ⟨#HI, #Hlv, Hp, Hyr, Hzs, HO⟩
  unfold reduced
  ihave Hp := (p_red A B c k a ha ha') $$ Hp
  icases Hp with ⟨⟨Hout, Hpm, Hv⟩, Hp⟩
  ihave Hyr := (yr_red c k) $$ Hyr
  icases Hyr with ⟨⟨Hat, Hcr⟩, Hyr⟩
  iapply (wp_waitRound A B c K (a := a) (b := k.val) (sem' := yrS k) (sem8_eq _ _ _ _ (off16_eq k) (by omega)) (yrS_ge k) (yrS_lt k)
    (role_yr k) nofun 0 rfl ?_ (by show 2 * k.val + 2 < _; omega) (by show 2 * k.val + 2 < _; omega)
    (P := own c (yrM k).view (Ys A B (yN c) k)) rfl) $$ [Hcr Hat HO]
  · rfl
  · isplitr; · iexact HI
    isplitr; · iexact Hlv
    isplitl [Hcr]; · iexact Hcr
    isplitl [Hat]; · iexact Hat
    iexact HO
  iintro ⟨HO, Hat, -, Hym⟩
  iapply (wp_loadSlot c (off19_eq k)) $$ Hpm
  iintro Hpm
  iapply (wp_loadSlot c (off20_eq k)) $$ Hym
  iintro Hym
  ihave Hyr := Hyr $$ [Hat Hym]
  · isplitl [Hat]; · iexact Hat
    iapply (own_any _ _ _) $$ Hym
  iapply (wp_loadSlot c (off19_eq k)) $$ Hpm
  iintro Hpm
  ihave Hpm := (own_any _ _ _) $$ Hpm
  iapply (wp_storeSlot c (off19_eq k)) $$ Hpm
  iintro Hpm
  rw [ret_bind]
  extract_lets j
  iapply (wp_jp c j iprop(Ictx A B K ∗ levAts L lv ∗ bigSep Finset.univ (zsSt c k.val) ∗ owing c a k.val) (frontZ c k a) ?_ ?_) $$ [Hzs HO]
  · intro h2
    have hk2 := (cond5_iff k).mp h2
    let i : Fin 8 := ⟨k.val - 2, by omega⟩
    have hi : i.val + 2 = k.val := by show k.val - 2 + 2 = k.val; omega
    iintro ⟨#HI, #Hlv, Hzs, HO⟩ Hk
    ihave Hzs := (zs_ge c k i hi) $$ Hzs
    icases Hzs with ⟨⟨Hn, -⟩, ⟨Hcr, Hat⟩, Hzs⟩
    rw [sl_eq hi]
    iapply (wp_waitRound A B c K (sem' := zsS (sl k)) (sem2_eq _ _ _ _ (off21_eq k hk2) (by omega)) (zsS_ge (sl k)) (zsS_lt (sl k))
      (role_zs (sl k)) nofun (i.val / 2) (if_pos (by omega)) ?_ (Nat.succ_pos _) (Nat.succ_pos _) (P := ownAny c (zsM (sl k)).view) rfl) $$ [Hcr Hat HO]
    · rfl
    · isplitr; · iexact HI
      isplitr; · iexact Hlv
      isplitl [Hcr]; · iexact Hcr
      isplitl [Hat]; · iexact Hat
      iexact HO
    iintro ⟨HO, Hat, Hr, Hpay⟩
    iapply Hk
    unfold frontZ zsIdle
    rw [← half_eq hi]
    isplitl [Hn]; · iexact Hn
    isplitl [Hpay Hat Hr]
    · isplitl [Hpay]; · iexact Hpay
      isplitl [Hat]; · iexact Hat
      iexact Hr
    isplitl [Hzs]
    · iintro H; iapply Hzs $$ H
      iempintro
    iexact HO
  · intro h2
    have hk2 : k.val < 2 := Nat.lt_of_not_le fun h => h2 ((cond5_iff k).mpr h)
    iintro ⟨-, -, Hzs, HO⟩ Hk
    ihave Hzs := (zs_lt c k hk2) $$ Hzs
    icases Hzs with ⟨⟨Hn, Hi⟩, Hzs⟩
    iapply Hk
    unfold frontZ
    isplitl [Hn]; · iexact Hn
    isplitl [Hi]; · iexact Hi
    isplitl [Hzs]; · iexact Hzs
    iexact HO
  · isplitr; · iexact HI
    isplitr; · iexact Hlv
    isplitl [Hzs]; · iexact Hzs
    iexact HO
  iintro HF
  iapply (wp_loadSlot c (off19_eq k)) $$ Hpm
  iintro Hpm
  rw [ret_bind, wp_pure]
  imodintro
  unfold frontZ
  icases HF with ⟨Hn, Hi, Hzs, HO⟩
  isplitr; · ipureintro; rfl
  isplitl [Hout]; · iexact Hout
  isplitl [Hpm]; · iexact Hpm
  isplitl [Hv]; · iexact Hv
  isplitl [Hp]; · iexact Hp
  isplitl [Hyr]; · iexact Hyr
  isplitl [Hn]; · iexact Hn
  isplitl [Hi]; · iexact Hi
  isplitl [Hzs]; · iexact Hzs
  iexact HO

/-- Chunk k gathered in vector memory, its copy to the result not yet started. -/
def gathered (k : Fin 8) (a b : ℕ) : sProp (MT nD τ sig Unit (Elt F) ℕ UU ℕ) :=
  iprop(ownAny c (outM (oth c) k).view ∗ own c (zfM (sl k)).view (Zf A B c k) ∗ semVal (dc c (ozS (sl k))) 0
    ∗ (ozFly A B c k -∗ bigSep Finset.univ (ozSt A B c (k.val + 1))) ∗ bigSep Finset.univ (zrSt c (k.val + 1)) ∗ owing c a b)

/-- A free slot for chunk k's gathered block. -/
def frontG (k : Fin 8) (a b : ℕ) : sProp (MT nD τ sig Unit (Elt F) ℕ UU ℕ) :=
  iprop(ownAny c (outM (oth c) k).view ∗ zfIdle c k ∗ (ozFly A B c k -∗ bigSep Finset.univ (ozSt A B c (k.val + 1))) ∗ owing c a b)

theorem part3 (k : Fin 8) (a b : ℕ) (ha : k.val < a) (hb : k.val < b) (h : k0_cond6 (tg k) = 1#1) (w2 w5 w8 w10 w19 : BitVec 32) :
    iprop(Ictx A B K ∗ levAts L lv ∗ bigSep Finset.univ (zrSt c k.val) ∗ bigSep Finset.univ (ozSt A B c k.val) ∗ owing c a b)
      ⊢ wp frame (wpE (defs₀ (F := F)) 𝒱₀ (c : Thread nD τ) none) Set.univ (k0_part3 (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c w2 w5 w8 w10 (tg k) w19 h)
          (fun _ => gathered A B c k a b) := by
  rw [k0_part3_eq_skeleton]
  unfold k0_part3_skel
  have hk8 := k.isLt
  iintro ⟨#HI, #Hlv, Hzr, Hoz, HO⟩
  unfold gathered
  ihave Hzr := (zr_gat c k) $$ Hzr
  icases Hzr with ⟨⟨Hat, Hcr⟩, Hzr⟩
  iapply (wp_waitRound A B c K (a := a) (b := b) (sem' := zrS k) (sem8_eq _ _ _ _ (off26_eq k) (by omega)) (zrS_ge k) (zrS_lt k)
    (role_zr k) nofun 0 rfl ?_ (by show 2 * k.val + 3 < _; omega) (by show 2 * k.val + 3 < _; omega)
    (P := own c (zrM k).view (Zs A B (zN c) k)) rfl) $$ [Hcr Hat HO]
  · rfl
  · isplitr; · iexact HI
    isplitr; · iexact Hlv
    isplitl [Hcr]; · iexact Hcr
    isplitl [Hat]; · iexact Hat
    iexact HO
  iintro ⟨HO, Hat, -, Hzm⟩
  rw [ret_bind]
  extract_lets j
  iapply (wp_jp c j iprop(levAts L lv ∗ bigSep Finset.univ (ozSt A B c k.val) ∗ owing c a b) (frontG A B c k a b) ?_ ?_) $$ [Hoz HO]
  · intro h2
    have hk2 := (cond7_iff k).mp h2
    let i : Fin 8 := ⟨k.val - 2, by omega⟩
    have hi : i.val + 2 = k.val := by show k.val - 2 + 2 = k.val; omega
    iintro ⟨#Hlv, Hoz, HO⟩ Hk
    ihave Hoz := (oz_ge A B c k i hi) $$ Hoz
    icases Hoz with ⟨⟨Hout, -⟩, Hf, Hoz⟩
    unfold ozFly
    rw [sl_eq hi]
    iapply (wp_waitHere c (sem2_eq _ _ _ _ (off29_eq k hk2) (by omega)) (role_oz (sl k)) NO ?_) $$ [Hf HO]
    · rfl
    · isplitr; · iexact Hlv
      isplitl [Hf]; · iexact Hf
      iexact HO
    iintro ⟨⟨Ho, Hzf⟩, Hv, HO⟩
    iapply Hk
    unfold frontG zfIdle ozFly
    isplitl [Hout]; · iexact Hout
    isplitl [Hzf Hv]
    · isplitl [Hzf]; · iapply (own_any _ _ _) $$ Hzf
      iexact Hv
    isplitl [Hoz Ho]
    · iintro H; iapply Hoz $$ H Ho
    iexact HO
  · intro h2
    have hk2 : k.val < 2 := Nat.lt_of_not_le fun h => h2 ((cond7_iff k).mpr h)
    iintro ⟨-, Hoz, HO⟩ Hk
    ihave Hoz := (oz_lt A B c k hk2) $$ Hoz
    icases Hoz with ⟨⟨Hout, Hi⟩, Hoz⟩
    iapply Hk
    unfold frontG
    isplitl [Hout]; · iexact Hout
    isplitl [Hi]; · iexact Hi
    isplitl [Hoz]; · iexact Hoz
    iexact HO
  · isplitr; · iexact Hlv
    isplitl [Hoz]; · iexact Hoz
    iexact HO
  iintro HF
  unfold frontG zfIdle
  icases HF with ⟨Hout, ⟨Hzf, Hv⟩, Hoz, HO⟩
  iapply (wp_loadSlot c (off32_eq k)) $$ Hzm
  iintro Hzm
  ihave Hzr := Hzr $$ [Hat Hzm]
  · isplitl [Hat]; · iexact Hat
    iapply (own_any _ _ _) $$ Hzm
  iapply (wp_loadSlotAny c (off33_eq k)) $$ Hzf
  iintro %w Hzf
  iapply (wp_storeSlot c (off33_eq k)) $$ Hzf
  iintro Hzf
  rw [ret_bind, wp_pure]
  imodintro
  isplitl [Hout]; · iexact Hout
  isplitl [Hzf]; · iexact Hzf
  isplitl [Hv]; · iexact Hv
  isplitl [Hoz]; · iexact Hoz
  isplitl [Hzr]; · iexact Hzr
  iexact HO

end Cert.Proof

end
-- ==== Proof.Trip.lean ====
/-
  One trip of the pipeline's loop.
-/
module

public import proofs.«01_k».proof.Proof.Body

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (A : Dev nD → Vec F S1024x8192 .bf16) (B : Dev nD → Vec F S2048x8192 .bf16) (c : Dev nD)
variable (K : GSem nD τ sig → ℕ)

theorem pay_y (k : Fin 8) : own (yN c) (yrM k).view (Ys A B c k) ⊢ rPay A B (yN c) (.yr k) false := by
  show _ ⊢ own (yN c) (yrM k).view (Ys A B (yN (yN c)) k)
  rw [yN_yN]
theorem pay_z (k : Fin 8) : own (zN c) (zrM k).view (Zs A B c k) ⊢ rPay A B (zN c) (.zr k) false := by
  show _ ⊢ own (zN c) (zrM k).view (Zs A B (zN (zN c)) k)
  rw [zN_zN]

/-- The state before trip t. -/
def Inv (t : ℕ) : sProp (MT nD τ sig Unit (Elt F) ℕ UU ℕ) := St A B c K (min t 8) (min (t - 1) 8) (t - 2)

theorem trip (w2 w5 w8 w9 w10 : BitVec 32) (w20 : Sems sig S_) (w27 w0 : BitVec 32) (t : Fin k0_t1_loop.trips) (u : Unit) :
    Inv A B c K t.val ⊢ wp frame (wpE (defs₀ (F := F)) 𝒱₀ (c : Thread nD τ) none) Set.univ
      (k0_t1_body (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c w2 w5 w8 w9 w10 w20 w27 w0 t u) (fun _ => Inv A B c K (t.val + 1)) := by
  unfold k0_t1_body Inv
  have ht : t.val < 10 := lt_of_lt_of_eq t.isLt trips_eq
  rw [show t.val + 1 - 1 = t.val from rfl, show t.val + 1 - 2 = t.val - 1 from rfl]
  extract_lets w19 w70 j3 j2 j1
  iintro H
  iapply (wp_jp c j1 (St A B c K (min t.val 8) (min (t.val - 1) 8) (t.val - 2))
    (St A B c K (min (t.val + 1) 8) (min (t.val - 1) 8) (t.val - 2)) ?_ ?_) $$ H
  · intro h1
    have h8 : t.val < 8 := (cond1_iff t).mp h1
    obtain ⟨k, rfl⟩ : ∃ k : Fin 8, t = tc k := ⟨⟨t.val, h8⟩, rfl⟩
    rw [show (tc k).val = k.val from rfl, show min k.val 8 = k.val by omega, show min (k.val + 1) 8 = k.val + 1 by omega,
      show min (k.val - 1) 8 = k.val - 1 by omega]
    unfold St
    iintro ⟨#HI, #Hlv, Hdy, Hw, Hp, Hys, Hyr, Hzs, Hzr, Hoz, HO⟩ Hk
    rw [wp_bind]
    iapply (wp_wand _ _ _ (Q := fun _ => computed A B c k)) $$ [Hdy Hw Hp Hys HO]
    · iapply (part1 A B c K k h1 _ _)
      isplitr; · iexact HI
      isplitr; · iexact Hlv
      isplitl [Hdy]; · iexact Hdy
      isplitl [Hw]; · iexact Hw
      isplitl [Hp]; · iexact Hp
      isplitl [Hys]; · iexact Hys
      iexact HO
    iintro %u Hc
    unfold computed
    icases Hc with ⟨Hdy, Hw, Hp, Hym, Hat, #Hr, ⟨Ht, Ht', Hym', #Hr'⟩, Hys, HO⟩
    iapply (wp_sendOwn A B c K (x' := yN c) (src' := ysM (sl k)) (dst' := yrM k) (sS' := ysS (sl k)) (sem' := yrS k) (a := k.val) (b := k.val - 1)
      (a' := k.val + 1) (b' := k.val - 1) (dev3_eq c _) (Memref.slice_unit_congr _ (off15_eq k) _ _ _ _)
      (Memref.slice_unit_congr _ (off14_eq k) _ _ _ _) (sem2_eq _ _ _ _ (off1_eq k) (by omega)) (sem8_eq _ _ _ _ (off13_eq k) (by omega))
      (ysS_ge (sl k)) (ysS_lt (sl k)) (yrS_ge k) (yrS_lt k) (role_ys (sl k)) (role_yr k) nofun nofun (k.val / 2) 0
      (if_pos (by omega)) rfl (yrM_amount k _) (O_y c k _) (own_any _ _ _) (pay_y A B c k)) $$ [Hym Hym' HO Ht Ht']
    · isplitr; · iexact HI
      isplitl [Hym]; · iexact Hym
      isplitl [Hym']; · iexact Hym'
      isplitl [HO]; · iexact HO
      isplitl [Ht]; · iexact Ht
      isplitr; · iexact Hr
      isplitl [Ht']; · iexact Ht'
      iexact Hr'
    iintro ⟨Hcr, HO⟩
    ihave Hys := Hys $$ [Hcr Hat]
    · isplitl [Hcr]; · iexact Hcr
      iexact Hat
    iapply Hk
    isplitr; · iexact HI
    isplitr; · iexact Hlv
    isplitl [Hdy]; · iexact Hdy
    isplitl [Hw]; · iexact Hw
    isplitl [Hp]; · iexact Hp
    isplitl [Hys]; · iexact Hys
    isplitl [Hyr]; · iexact Hyr
    isplitl [Hzs]; · iexact Hzs
    isplitl [Hzr]; · iexact Hzr
    isplitl [Hoz]; · iexact Hoz
    iexact HO
  · intro h1
    have h8 : 8 ≤ t.val := Nat.le_of_not_lt fun h => h1 ((cond1_iff t).mpr h)
    rw [show min (t.val + 1) 8 = min t.val 8 by omega]
    iintro H Hk
    iapply Hk $$ H
  iintro H
  unfold j1
  iapply (wp_jp c j2 (St A B c K (min (t.val + 1) 8) (min (t.val - 1) 8) (t.val - 2))
    (St A B c K (min (t.val + 1) 8) (min t.val 8) (t.val - 2)) ?_ ?_) $$ H
  · intro h4
    have h8 := (cond4_iff t).mp h4
    obtain ⟨k, rfl⟩ : ∃ k : Fin 8, t = tr k := ⟨⟨t.val - 1, by omega⟩, Fin.ext (by show t.val = t.val - 1 + 1; omega)⟩
    have hk8 := k.isLt
    rw [show (tr k).val = k.val + 1 from rfl, show k.val + 1 - 1 = k.val from rfl, show min k.val 8 = k.val by omega,
      show min (k.val + 1) 8 = k.val + 1 by omega]
    obtain ⟨a, ha⟩ : ∃ a, a = min (k.val + 1 + 1) 8 := ⟨_, rfl⟩
    rw [← ha]
    have ha1 : k.val < a := by omega
    have ha2 : a ≤ k.val + 2 := by omega
    unfold St
    iintro ⟨#HI, #Hlv, Hdy, Hw, Hp, Hys, Hyr, Hzs, Hzr, Hoz, HO⟩ Hk
    rw [wp_bind]
    iapply (wp_wand _ _ _ (Q := fun r => iprop(⌜r.2.2.1 = k0_pay5 (Qv A B c k)⌝ ∗ reduced A B c k a))) $$ [Hp Hyr Hzs HO]
    · iapply (part2 A B c K k a ha1 ha2 h4 _ _ _ _)
      isplitr; · iexact HI
      isplitr; · iexact Hlv
      isplitl [Hp]; · iexact Hp
      isplitl [Hyr]; · iexact Hyr
      isplitl [Hzs]; · iexact Hzs
      iexact HO
    iintro %r ⟨%hr, Hc⟩
    obtain ⟨r1, r2, v, r3⟩ := r
    replace hr : v = k0_pay5 (Qv A B c k) := hr
    subst hr
    unfold reduced zsIdle oyFly
    icases Hc with ⟨Hout, Hpm, Hv, Hp, Hyr, ⟨Ht, Ht', Hzm', #Hr'⟩, ⟨Hzm, Hat, #Hr⟩, Hzs, HO⟩
    iapply (wp_loadSlotAny c (off19_eq k)) $$ Hzm
    iintro %w Hzm
    iapply (wp_storeSlot c (off19_eq k)) $$ Hzm
    iintro Hzm
    iapply (wp_sendOwn A B c K (x' := zN c) (src' := zsM (sl k)) (dst' := zrM k) (sS' := zsS (sl k)) (sem' := zrS k) (a := a) (b := k.val)
      (a' := a) (b' := k.val + 1) (w := Zs A B c k) (dev4_eq c _) (Memref.slice_unit_congr _ (off18_eq k) _ _ _ _)
      (Memref.slice_unit_congr _ (off17_eq k) _ _ _ _) (sem2_eq _ _ _ _ (off24_eq k) (by omega)) (sem8_eq _ _ _ _ (off16_eq k) (by omega))
      (zsS_ge (sl k)) (zsS_lt (sl k)) (zrS_ge k) (zrS_lt k) (role_zs (sl k)) (role_zr k) nofun nofun (k.val / 2) 0
      (if_pos (by omega)) rfl (zrM_amount k _) (O_z c k _) (own_any _ _ _) (pay_z A B c k)) $$ [Hzm Hzm' HO Ht Ht']
    · isplitr; · iexact HI
      isplitl [Hzm]; · iexact Hzm
      isplitl [Hzm']; · iexact Hzm'
      isplitl [HO]; · iexact HO
      isplitl [Ht]; · iexact Ht
      isplitr; · iexact Hr
      isplitl [Ht']; · iexact Ht'
      iexact Hr'
    iintro ⟨Hcr, HO⟩
    ihave Hzs := Hzs $$ [Hcr Hat]
    · isplitl [Hcr]; · iexact Hcr
      iexact Hat
    iapply (wp_copyOwn c (src' := pM (sl k)) (dst' := outM (own₀ c) k) (sm' := oyS (sl k)) (Memref.slice_unit_congr _ (off18_eq k) _ _ _ _)
      (Memref.slice_unit_congr _ (off25_eq c k) _ _ _ _) (sem2_eq _ _ _ _ (off24_eq k) (by omega)) NO rfl NO_pos) $$ [Hpm Hout Hv]
    · isplitl [Hpm]; · iexact Hpm
      isplitl [Hout]; · iexact Hout
      iexact Hv
    iintro Hf
    ihave Hp := Hp $$ Hf
    iapply Hk
    isplitr; · iexact HI
    isplitr; · iexact Hlv
    isplitl [Hdy]; · iexact Hdy
    isplitl [Hw]; · iexact Hw
    isplitl [Hp]; · iexact Hp
    isplitl [Hys]; · iexact Hys
    isplitl [Hyr]; · iexact Hyr
    isplitl [Hzs]; · iexact Hzs
    isplitl [Hzr]; · iexact Hzr
    isplitl [Hoz]; · iexact Hoz
    iexact HO
  · intro h4
    have h8 : ¬ (1 ≤ t.val ∧ t.val ≤ 8) := fun h => h4 ((cond4_iff t).mpr h)
    rw [show min (t.val - 1) 8 = min t.val 8 by omega]
    iintro H Hk
    iapply Hk $$ H
  iintro H
  unfold j2
  iapply (wp_jp c j3 (St A B c K (min (t.val + 1) 8) (min t.val 8) (t.val - 2))
    (St A B c K (min (t.val + 1) 8) (min t.val 8) (t.val - 1)) ?_ ?_) $$ H
  · intro h6
    have h8 := (cond6_iff t).mp h6
    obtain ⟨k, rfl⟩ : ∃ k : Fin 8, t = tg k := ⟨⟨t.val - 2, by omega⟩, Fin.ext (by show t.val = t.val - 2 + 2; omega)⟩
    have hk8 := k.isLt
    rw [show (tg k).val = k.val + 2 from rfl, show k.val + 2 - 1 = k.val + 1 from rfl, show k.val + 2 - 2 = k.val from rfl]
    obtain ⟨a, ha⟩ : ∃ a, a = min (k.val + 2 + 1) 8 := ⟨_, rfl⟩
    obtain ⟨b, hb⟩ : ∃ b, b = min (k.val + 2) 8 := ⟨_, rfl⟩
    rw [← ha, ← hb]
    have ha1 : k.val < a := by omega
    have hb1 : k.val < b := by omega
    unfold St
    iintro ⟨#HI, #Hlv, Hdy, Hw, Hp, Hys, Hyr, Hzs, Hzr, Hoz, HO⟩ Hk
    rw [wp_bind]
    iapply (wp_wand _ _ _ (Q := fun _ => gathered A B c k a b)) $$ [Hzr Hoz HO]
    · iapply (part3 A B c K k a b ha1 hb1 h6 _ _ _ _ _)
      isplitr; · iexact HI
      isplitr; · iexact Hlv
      isplitl [Hzr]; · iexact Hzr
      isplitl [Hoz]; · iexact Hoz
      iexact HO
    iintro %u Hc
    unfold gathered ozFly
    icases Hc with ⟨Hout, Hzf, Hv, Hoz, Hzr, HO⟩
    iapply (wp_copyOwn c (src' := zfM (sl k)) (dst' := outM (oth c) k) (sm' := ozS (sl k)) (Memref.slice_unit_congr _ (off28_eq k) _ _ _ _)
      (Memref.slice_unit_congr _ (off35_eq c k) _ _ _ _) (sem2_eq _ _ _ _ (off34_eq k) (by omega)) NO rfl NO_pos) $$ [Hzf Hout Hv]
    · isplitl [Hzf]; · iexact Hzf
      isplitl [Hout]; · iexact Hout
      iexact Hv
    iintro Hf
    ihave Hoz := Hoz $$ Hf
    iapply Hk
    isplitr; · iexact HI
    isplitr; · iexact Hlv
    isplitl [Hdy]; · iexact Hdy
    isplitl [Hw]; · iexact Hw
    isplitl [Hp]; · iexact Hp
    isplitl [Hys]; · iexact Hys
    isplitl [Hyr]; · iexact Hyr
    isplitl [Hzs]; · iexact Hzs
    isplitl [Hzr]; · iexact Hzr
    isplitl [Hoz]; · iexact Hoz
    iexact HO
  · intro h6
    have h8 : ¬ 2 ≤ t.val := fun h => h6 ((cond6_iff t).mpr h)
    rw [show t.val - 1 = t.val - 2 by omega]
    iintro H Hk
    iapply Hk $$ H
  iintro H
  unfold j3
  rw [wp_pure]
  imodintro
  iexact H

end Cert.Proof

end
-- ==== Proof.Run.lean ====
/-
  A device's run of the kernel before and after the loop: the copies started and the partners told of the landing slots,
  the barrier, the copies still in flight after the last trip, and every cell given back at zero.
-/
module

public import proofs.«01_k».proof.Proof.Trip

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

section Run
variable (A : Dev nD → Vec F S1024x8192 .bf16) (B : Dev nD → Vec F S2048x8192 .bf16) (c : Dev nD) (K : GSem nD τ sig → ℕ)

/-! ## What a device enters with -/

def wPre (k : Fin 8) : sProp 𝕄 :=
  if k.val < 2 then iprop(own c (wsrcM k).view (Wc B c k) ∗ wIdle c k) else own c (wsrcM k).view (Wc B c k)
def ysPre (k : Fin 8) : sProp 𝕄 :=
  iprop((dutyTok ER (dc c (ysS (sl k))) (k.val / 2) false ∗ dutyTok ER (dc (yN c) (yrS k)) 0 false) ∗ if k.val < 2 then ysIdle c k else iprop(emp))
def zsPre (k : Fin 8) : sProp 𝕄 :=
  iprop((dutyTok ER (dc c (zsS (sl k))) (k.val / 2) false ∗ dutyTok ER (dc (zN c) (zrS k)) 0 false) ∗ if k.val < 2 then zsIdle c k else iprop(emp))

/-- What a device owes at the start: a unit to each partner's barrier, and every landing. -/
def O₀ (c : Dev nD) : CellTallies nD τ sig Unit :=
  O c 0 0 + tallyAt (barCell (zN c)) () 1 + tallyAt (barCell (yN c)) () 1

def ND : ℕ := dyM.view.dmaCredit
theorem ND_pos : 0 < ND := View.dmaCredit_pos _ (by decide)
def dyFly : sProp 𝕄 :=
  Flight EC (c : Thread nD τ) (.dma dyS) () ND iprop(own c dyM.view (A c) ∗ own c dysrcM.view (A c))

/-- The families no step before the barrier touches. -/
def Rest : sProp 𝕄 :=
  iprop(bigSep Finset.univ (pSt A B c 0 0) ∗ bigSep Finset.univ (ysPre c) ∗ bigSep Finset.univ (yrSt c 0)
    ∗ bigSep Finset.univ (zsPre c) ∗ bigSep Finset.univ (zrSt c 0) ∗ bigSep Finset.univ (ozSt A B c 0))

/-- What the first part uses. -/
def Start1 : sProp 𝕄 :=
  iprop(own c dysrcM.view (A c) ∗ ownAny c dyM.view ∗ semVal (dc c dyS) 0 ∗ bigSep Finset.univ (wPre B c)
    ∗ yPay c ∗ dutyTok ER (barCell (yN c)) 0 false ∗ reached ER (barCell (yN c)) 0 ∗ ∃ W, owes (c : Thread nD τ) (O₀ c) W)
/-- What the barrier uses. -/
def Start2 : sProp 𝕄 :=
  iprop(zPay c ∗ dutyTok ER (barCell (zN c)) 0 true ∗ reached ER (barCell (zN c)) 0
    ∗ atPos ER (barCell c) 0 ∅ 0 ∗ cred (tallyAt (barCell c) () 2))
def Mid : sProp 𝕄 :=
  iprop(dyFly A c ∗ bigSep Finset.univ (wSt B c 0) ∗ ∃ W, owes (c : Thread nD τ) (O c 0 0 + tallyAt (barCell (zN c)) () 1) W)

theorem pay_bar_y : yPay c ⊢ (Rd A B).payload (barCell (yN c)) 0 false := by
  rw [payload_of A B (yN c) role_bar]
  show _ ⊢ yPay (yN (yN c))
  rw [yN_yN]
theorem pay_bar_z : zPay c ⊢ (Rd A B).payload (barCell (zN c)) 0 true := by
  rw [payload_of A B (zN c) role_bar]
  show _ ⊢ zPay (zN (zN c))
  rw [zN_zN]
theorem duty_bar (d : Bool) : d ∈ (Rd A B).duties (barCell c) 0 := by
  rw [duties_of A B c role_bar]; exact Finset.mem_univ d

theorem part4 :
    iprop(Ictx A B K ∗ Start1 A B c)
      ⊢ wp frame (wpE (defs₀ (F := F)) 𝒱₀ (c : Thread nD τ) none) Set.univ
      (k0_part4 (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) (fun r => iprop(⌜∃ w2 w5 w8 w9 w10 w27 w0, r = ⟨c, w2, w5, w8, w9, w10, SemArray.scalar barrier0, w27, w0⟩⌝ ∗ Mid A B c)) := by
  rw [k0_part4_eq_skeleton]; unfold k0_part4_skel Start1
  iintro ⟨#HI, Hsrc, Hdy, Hv, Hw, Hpay, Ht, #Hr, ⟨%W, HO⟩⟩
  iapply (Entails.of_eq (wp_deviceId 𝒱₀ (c : Thread nD τ) none Set.univ).symm)
  iapply (wp_copyOwn c (src' := dysrcM) (dst' := dyM) (sm' := dyS) rfl rfl rfl ND rfl ND_pos) $$ [Hsrc Hdy Hv]
  · isplitl [Hsrc]; · iexact Hsrc
    isplitl [Hdy]; · iexact Hdy
    iexact Hv
  iintro Hf
  ihave Hw := (fam2 0 1 (by decide) (wPre B c) (wSt B c 0) (fun j h0 h1 => by
    have h0' : j.val ≠ 0 := val_ne h0
    have h1' : j.val ≠ 1 := val_ne h1
    unfold wPre wSt
    rw [if_neg (by omega), if_neg (by omega), if_neg (by omega)])) $$ Hw
  rw [show wPre B c 0 = iprop(own c (wsrcM 0).view (Wc B c 0) ∗ wIdle c 0) from rfl,
    show wPre B c 1 = iprop(own c (wsrcM 1).view (Wc B c 1) ∗ wIdle c 1) from rfl,
    show wSt B c 0 0 = wFly B c 0 from rfl, show wSt B c 0 1 = wFly B c 1 from rfl]
  unfold wIdle wFly
  icases Hw with ⟨⟨Hs0, Hd0, Hv0⟩, ⟨Hs1, Hd1, Hv1⟩, Hw⟩
  iapply (wp_copyOwn c (src' := wsrcM 0) (dst' := wM (sl 0)) (sm' := wS (sl 0)) rfl rfl (sem2_eq _ _ _ _ rfl (by decide)) NW rfl NW_pos) $$ [Hs0 Hd0 Hv0]
  · isplitl [Hs0]; · iexact Hs0
    isplitl [Hd0]; · iexact Hd0
    iexact Hv0
  iintro Hf0
  iapply (wp_copyOwn c (src' := wsrcM 1) (dst' := wM (sl 1)) (sm' := wS (sl 1)) rfl rfl (sem2_eq _ _ _ _ rfl (by decide)) NW rfl NW_pos) $$ [Hs1 Hd1 Hv1]
  · isplitl [Hs1]; · iexact Hs1
    isplitl [Hd1]; · iexact Hd1
    iexact Hv1
  iintro Hf1
  ihave Hw := Hw $$ Hf0 Hf1
  rw [dev1_eq]
  unfold semSignalWord
  iapply (Rounds.wp_signal (c := (c : Thread nD τ)) 𝒱₀ ER (Rd A B) none (dst := (yN c : Thread nD τ)) (sem := barS) (r := 0) (d := false) (k' := 1) (κ := K (barCell (yN c)))
    (duty_bar A B (yN c) false) (amount_bar A B (yN c) 0 false) () (O c 0 0 + tallyAt (barCell (zN c)) () 1) rfl) $$ [HO Ht Hpay]
  · isplitr; · iapply (Ictx_get A B K (mem_bar (yN c))); iexact HI
    isplitl [HO]; · iexact HO
    isplitl [Ht]; · iexact Ht
    isplitl [Hpay]; · iapply (pay_bar_y A B c) $$ Hpay
    iexact Hr
  iintro HO
  rw [ret_bind, wp_pure]
  imodintro
  isplitr; · ipureintro; exact ⟨_, _, _, _, _, _, _, rfl⟩
  unfold Mid dyFly
  isplitl [Hf]; · iexact Hf
  isplitl [Hw]; · iexact Hw
  iexists W; iexact HO

/-! ## What is left after the last trip -/

def pEnd (k : Fin 8) : sProp 𝕄 :=
  if k.val < 6 then own c (outM (own₀ c) k).view (Qv A B c k) else iprop(own c (outM (own₀ c) k).view (Qv A B c k) ∗ pIdle c k)
def ozEnd (k : Fin 8) : sProp 𝕄 :=
  if k.val < 6 then own c (outM (oth c) k).view (Zf A B c k) else iprop(own c (outM (oth c) k).view (Zf A B c k) ∗ zfIdle c k)
def ysDone (k : Fin 8) : sProp 𝕄 :=
  if k.val < 6 then iprop(emp) else iprop(ownAny c (ysM (sl k)).view ∗ atPos ER (dc c (ysS (sl k))) 4 ∅ 0)
def zsDone (k : Fin 8) : sProp 𝕄 :=
  if k.val < 6 then iprop(emp) else iprop(ownAny c (zsM (sl k)).view ∗ atPos ER (dc c (zsS (sl k))) 4 ∅ 0)

theorem two_left {k : Fin 8} (h6 : k ≠ 6) (h7 : k ≠ 7) : k.val < 6 := by
  have h6' : k.val ≠ 6 := val_ne h6
  have h7' : k.val ≠ 7 := val_ne h7
  omega

theorem p_left : bigSep Finset.univ (pSt A B c 8 8)
    ⊢ iprop(oyFly A B c 6 ∗ oyFly A B c 7 ∗ (pEnd A B c 6 -∗ pEnd A B c 7 -∗ bigSep Finset.univ (pEnd A B c))) :=
  fam2 6 7 (by decide) (pSt A B c 8 8) (pEnd A B c) fun j h6 h7 => by
    have := two_left h6 h7
    unfold pSt pEnd
    rw [if_neg (by omega), if_neg (by omega), if_neg (by omega), if_pos (by omega)]
theorem oz_left : bigSep Finset.univ (ozSt A B c 8)
    ⊢ iprop(ozFly A B c 6 ∗ ozFly A B c 7 ∗ (ozEnd A B c 6 -∗ ozEnd A B c 7 -∗ bigSep Finset.univ (ozEnd A B c))) :=
  fam2 6 7 (by decide) (ozSt A B c 8) (ozEnd A B c) fun j h6 h7 => by
    have := two_left h6 h7
    unfold ozSt ozEnd
    rw [if_neg (by omega), if_neg (by omega), if_pos (by omega)]
theorem ys_left : bigSep Finset.univ (ysSt (F := F) c 8)
    ⊢ iprop((cred (tallyAt (dc c (ysS (sl 6))) () NR) ∗ atPos ER (dc c (ysS (sl 6))) 3 ∅ 0)
      ∗ (cred (tallyAt (dc c (ysS (sl 7))) () NR) ∗ atPos ER (dc c (ysS (sl 7))) 3 ∅ 0)
      ∗ (ysDone c 6 -∗ ysDone c 7 -∗ bigSep Finset.univ (ysDone (F := F) c))) :=
  fam2 6 7 (by decide) (ysSt c 8) (ysDone c) fun j h6 h7 => by
    have := two_left h6 h7
    unfold ysSt ysDone
    rw [if_neg (by omega), if_neg (by omega), if_pos (by omega)]
theorem zs_left : bigSep Finset.univ (zsSt (F := F) c 8)
    ⊢ iprop((cred (tallyAt (dc c (zsS (sl 6))) () NR) ∗ atPos ER (dc c (zsS (sl 6))) 3 ∅ 0)
      ∗ (cred (tallyAt (dc c (zsS (sl 7))) () NR) ∗ atPos ER (dc c (zsS (sl 7))) 3 ∅ 0)
      ∗ (zsDone c 6 -∗ zsDone c 7 -∗ bigSep Finset.univ (zsDone (F := F) c))) :=
  fam2 6 7 (by decide) (zsSt c 8) (zsDone c) fun j h6 h7 => by
    have := two_left h6 h7
    unfold zsSt zsDone
    rw [if_neg (by omega), if_neg (by omega), if_pos (by omega)]

/-- What the partner's signal hands over completes the duties of the copies along y. -/
theorem ys_full1 (k : Fin 8) : iprop(ysPre c k ∗ (ownAny (yN c) (yrM k).view ∗ reached ER (dc (yN c) (yrS k)) 0)) ⊢ ysSt (F := F) c 0 k := by
  unfold ysPre ysSt
  rw [if_pos (Nat.zero_le k.val)]
  iintro ⟨⟨⟨Ht, Ht'⟩, Hi⟩, Hm, #Hr⟩
  isplitr [Hi]
  · isplitl [Ht]; · iexact Ht
    isplitl [Ht']; · iexact Ht'
    isplitl [Hm]; · iexact Hm
    iexact Hr
  iexact Hi
theorem ys_full : iprop(bigSep Finset.univ (ysPre (F := F) c) ∗ yPay (yN c)) ⊢ bigSep Finset.univ (ysSt c 0) := by
  unfold yPay
  rw [← bigSep_sep']
  exact bigSep_mono fun k _ => ys_full1 c k
theorem zs_full1 (k : Fin 8) : iprop(zsPre c k ∗ (ownAny (zN c) (zrM k).view ∗ reached ER (dc (zN c) (zrS k)) 0)) ⊢ zsSt (F := F) c 0 k := by
  unfold zsPre zsSt
  rw [if_pos (Nat.zero_le k.val)]
  iintro ⟨⟨⟨Ht, Ht'⟩, Hi⟩, Hm, #Hr⟩
  isplitr [Hi]
  · isplitl [Ht]; · iexact Ht
    isplitl [Ht']; · iexact Ht'
    isplitl [Hm]; · iexact Hm
    iexact Hr
  iexact Hi
theorem zs_full : iprop(bigSep Finset.univ (zsPre (F := F) c) ∗ zPay (zN c)) ⊢ bigSep Finset.univ (zsSt c 0) := by
  unfold zPay
  rw [← bigSep_sep']
  exact bigSep_mono fun k _ => zs_full1 c k

/-- What is left when the second part returns: the waits on the last chunks. -/
def Tail : sProp 𝕄 :=
  iprop(own c dysrcM.view (A c) ∗ atPos ER (barCell c) 1 ∅ 0 ∗ own c dyM.view (A c) ∗ semVal (dc c dyS) 0 ∗ bigSep Finset.univ (wSt B c 8)
    ∗ (oyFly A B c 7 ∗ (pEnd A B c 7 -∗ bigSep Finset.univ (pEnd A B c)))
    ∗ ((cred (tallyAt (dc c (ysS (sl 7))) () NR) ∗ atPos ER (dc c (ysS (sl 7))) 3 ∅ 0) ∗ (ysDone c 7 -∗ bigSep Finset.univ (ysDone c)))
    ∗ bigSep Finset.univ (yrSt c 8)
    ∗ ((cred (tallyAt (dc c (zsS (sl 7))) () NR) ∗ atPos ER (dc c (zsS (sl 7))) 3 ∅ 0) ∗ (zsDone c 7 -∗ bigSep Finset.univ (zsDone c)))
    ∗ bigSep Finset.univ (zrSt c 8)
    ∗ bigSep Finset.univ (ozSt A B c 8) ∗ owing c 8 8)

set_option maxHeartbeats 2000000 in
theorem part5 (w2 w5 w8 w9 w10 w27 w0 : BitVec 32) :
    iprop(Ictx A B K ∗ levAts L lv ∗ Start2 c ∗ Rest A B c ∗ Mid A B c)
      ⊢ wp frame (wpE (defs₀ (F := F)) 𝒱₀ (c : Thread nD τ) none) Set.univ
      (k0_part5 (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 c w2 w5 w8 w9 w10 (SemArray.scalar barrier0) w27 w0) (fun _ => Tail A B c) := by
  rw [k0_part5_eq_skeleton]; unfold k0_part5_skel Start2 Rest Mid semSignalWord semWaitWord
  iintro ⟨#HI, #Hlv, ⟨Hpay, Ht, #Hr, Hb, Hcr⟩, ⟨Hp, Hys, Hyr, Hzs, Hzr, Hoz⟩, Hf, Hw, ⟨%W, HO⟩⟩
  rw [dev2_eq]
  iapply (Rounds.wp_signal (c := (c : Thread nD τ)) 𝒱₀ ER (Rd A B) none (dst := (zN c : Thread nD τ)) (sem := barS) (r := 0) (d := true) (k' := 1) (κ := K (barCell (zN c)))
    (duty_bar A B (zN c) true) (amount_bar A B (zN c) 0 true) () (O c 0 0) rfl) $$ [HO Ht Hpay]
  · isplitr; · iapply (Ictx_get A B K (mem_bar (zN c))); iexact HI
    isplitl [HO]; · iexact HO
    isplitl [Ht]; · iexact Ht
    isplitl [Hpay]; · iapply (pay_bar_z A B c) $$ Hpay
    iexact Hr
  iintro HO
  iapply (wp_wait_rest_token (c := (c : Thread nD τ)) 𝒱₀ ER (Rd A B) none (sm := .reg barS) (k' := 2) (R := 0) (m := 0) (T := ∅) (κ := K (barCell c))
    (wpE_semWait_eq 𝒱₀ (c : Thread nD τ) none Set.univ) (Set.mem_univ _) () (O := O c 0 0) ((Nat.zero_add _).trans (expect_bar A B c).symm)) $$ [Hcr HO Hb]
  · isplitr; · iapply (Ictx_get A B K (mem_bar c)); iexact HI
    isplitl [Hcr]; · iexact Hcr
    isplitl [HO]; · iexact HO
    isplitr
    · iapply (mayWait c (.reg barS) (a := 0) (b := 0) (by rw [role_bar]; decide) (by rw [role_bar]; decide))
      iexact Hlv
    iexact Hb
  iintro ⟨HO, Hb, -, Hpay⟩
  ihave Hpay := (Entails.of_eq (rest_bar A B c)) $$ Hpay
  icases Hpay with ⟨Hz, Hy⟩
  ihave Hys := (ys_full c) $$ [Hys Hy]
  · isplitl [Hys]; · iexact Hys
    iexact Hy
  ihave Hzs := (zs_full c) $$ [Hzs Hz]
  · isplitl [Hzs]; · iexact Hzs
    iexact Hz
  unfold dyFly
  iapply (wp_waitHere c (sem' := dyS) (a := 0) (b := 0) rfl role_dy ND ?_) $$ [Hf HO]
  · rfl
  · isplitr; · iexact Hlv
    isplitl [Hf]; · iexact Hf
    unfold owing; iexists _; iexact HO
  iintro ⟨⟨Hdy, Hsrc⟩, Hdv, HO⟩
  iapply (Scf.wp_for_bind frame (wpE (defs₀ (F := F)) 𝒱₀ (c : Thread nD τ) none) Set.univ k0_t1_loop.lb k0_t1_loop.ub k0_t1_loop.st k0_t1_ok ⟨⟩ _
    (fun n (_ : Unit) => Inv A B c K n) (fun t u => trip A B c K w2 w5 w8 w9 w10 (SemArray.scalar barrier0) w27 w0 t u)) $$ [Hdy Hw Hp Hys Hyr Hzs Hzr Hoz HO]
  · unfold Inv St
    isplitr; · iexact HI
    isplitr; · iexact Hlv
    isplitl [Hdy]; · iexact Hdy
    isplitl [Hw]; · iexact Hw
    isplitl [Hp]; · iexact Hp
    isplitl [Hys]; · iexact Hys
    isplitl [Hyr]; · iexact Hyr
    isplitl [Hzs]; · iexact Hzs
    isplitl [Hzr]; · iexact Hzr
    isplitl [Hoz]; · iexact Hoz
    iexact HO
  iintro %u H
  have e : Inv A B c K (Scf.trips k0_t1_loop.lb k0_t1_loop.ub k0_t1_loop.st) = iprop(Ictx A B K ∗ levAts L lv ∗ own c dyM.view (A c)
      ∗ bigSep Finset.univ (wSt B c 8) ∗ bigSep Finset.univ (pSt A B c 8 8) ∗ bigSep Finset.univ (ysSt c 8)
      ∗ bigSep Finset.univ (yrSt c 8) ∗ bigSep Finset.univ (zsSt c 8) ∗ bigSep Finset.univ (zrSt c 8)
      ∗ bigSep Finset.univ (ozSt A B c 8) ∗ owing c 8 8) := by
    show Inv A B c K k0_t1_loop.trips = _
    rw [trips_eq]; rfl
  ihave H := (Entails.of_eq e) $$ H
  icases H with ⟨-, -, Hdy, Hw, Hp, Hys, Hyr, Hzs, Hzr, Hoz, HO⟩
  ihave Hys := (ys_left c) $$ Hys
  icases Hys with ⟨⟨Hc6, Ha6⟩, Hy7, Hys⟩
  iapply (wp_waitRound A B c K (sem' := ysS (sl 6)) (a := 8) (b := 8) (sem2_eq _ ![0] _ 0 rfl (by decide)) (ysS_ge _) (ysS_lt _) (role_ys (sl 6)) nofun 3 (by decide) ?_
    (by decide) (by decide) (P := ownAny c (ysM (sl 6)).view) rfl) $$ [Hc6 Ha6 HO]
  · rfl
  · isplitr; · iexact HI
    isplitr; · iexact Hlv
    isplitl [Hc6]; · iexact Hc6
    isplitl [Ha6]; · iexact Ha6
    iexact HO
  iintro ⟨HO, Ha6, -, Hm6⟩
  ihave Hys := Hys $$ [Ha6 Hm6]
  · unfold ysDone; rw [if_neg (by decide)]
    isplitl [Hm6]; · iexact Hm6
    iexact Ha6
  ihave Hzs := (zs_left c) $$ Hzs
  icases Hzs with ⟨⟨Hc6, Ha6⟩, Hz7, Hzs⟩
  iapply (wp_waitRound A B c K (sem' := zsS (sl 6)) (a := 8) (b := 8) (sem2_eq _ ![0] _ 0 rfl (by decide)) (zsS_ge _) (zsS_lt _) (role_zs (sl 6)) nofun 3 (by decide) ?_
    (by decide) (by decide) (P := ownAny c (zsM (sl 6)).view) rfl) $$ [Hc6 Ha6 HO]
  · rfl
  · isplitr; · iexact HI
    isplitr; · iexact Hlv
    isplitl [Hc6]; · iexact Hc6
    isplitl [Ha6]; · iexact Ha6
    iexact HO
  iintro ⟨HO, Ha6, -, Hm6⟩
  ihave Hzs := Hzs $$ [Ha6 Hm6]
  · unfold zsDone; rw [if_neg (by decide)]
    isplitl [Hm6]; · iexact Hm6
    iexact Ha6
  ihave Hp := (p_left A B c) $$ Hp
  icases Hp with ⟨Hf6, Hf7, Hp⟩
  ihave Hf := (show oyFly A B c 6 ⊢ Flight EC (c : Thread nD τ) (.dma (oyS (sl 6))) () NO
    iprop(own c (outM (own₀ c) 6).view (Qv A B c 6) ∗ own c (pM (sl 6)).view (Qv A B c 6)) from .rfl) $$ Hf6
  iapply (wp_waitHere c (sem' := oyS (sl 6)) (a := 8) (b := 8) (sem2_eq _ ![0] _ 0 rfl (by decide)) (role_oy _) NO ?_) $$ [Hf HO]
  · rfl
  · isplitr; · iexact Hlv
    isplitl [Hf]; · iexact Hf
    iexact HO
  iintro ⟨⟨Ho, Hm⟩, Hv, HO⟩
  ihave Hp := Hp $$ [Ho Hm Hv]
  · unfold pEnd pIdle; rw [if_neg (by decide)]
    isplitl [Ho]; · iexact Ho
    isplitl [Hm]; · iapply (own_any _ _ _) $$ Hm
    iexact Hv
  rw [ret_bind, wp_pure]
  imodintro
  unfold Tail
  isplitl [Hsrc]; · iexact Hsrc
  isplitl [Hb]; · iexact Hb
  isplitl [Hdy]; · iexact Hdy
  isplitl [Hdv]; · iexact Hdv
  isplitl [Hw]; · iexact Hw
  isplitl [Hf7 Hp]
  · isplitl [Hf7]; · iexact Hf7
    iexact Hp
  isplitl [Hy7 Hys]
  · isplitl [Hy7]; · iexact Hy7
    iexact Hys
  isplitl [Hyr]; · iexact Hyr
  isplitl [Hz7 Hzs]
  · isplitl [Hz7]; · iexact Hz7
    iexact Hzs
  isplitl [Hzr]; · iexact Hzr
  isplitl [Hoz]; · iexact Hoz
  iexact HO

/-! ## Giving the cells back -/

theorem close_cell (sm : DmaSem sig) (h3 : 3 ≤ sm.val) (h23 : sm.val < 23) {ρ : Role} (hρ : role (.dma sm) = ρ) (R : ℕ)
    (hR : ∀ r, R ≤ r → rDuties ρ r = ∅) :
    iprop(Ictx A B K ∗ atPos ER (dc c sm) R ∅ 0) ⊢ (|={Set.univ}=> semVal (dc c sm) 0 : sProp 𝕄) := by
  iintro ⟨#HI, Ha⟩
  iapply (cell_close ER (Rd A B) (g := dc c sm) (κ := K (dc c sm)) (Set.mem_univ _) (fun h => h) (R := R) (fun r hr => by
    rw [duties_of A B c hρ]; exact hR r hr))
  isplitr; · iapply (Ictx_get A B K (mem_sc c sm h3 h23)); iexact HI
  iexact Ha

def ysEnd (k : Fin 8) : sProp 𝕄 :=
  if k.val < 6 then iprop(emp) else iprop(ownAny c (ysM (sl k)).view ∗ semVal (dc c (ysS (sl k))) 0)
def zsEnd (k : Fin 8) : sProp 𝕄 :=
  if k.val < 6 then iprop(emp) else iprop(ownAny c (zsM (sl k)).view ∗ semVal (dc c (zsS (sl k))) 0)
def yrEnd (k : Fin 8) : sProp 𝕄 := iprop(ownAny c (yrM k).view ∗ semVal (dc c (yrS k)) 0)
def zrEnd (k : Fin 8) : sProp 𝕄 := iprop(ownAny c (zrM k).view ∗ semVal (dc c (zrS k)) 0)

theorem ys_close (k : Fin 8) : iprop(Ictx A B K ∗ ysDone c k) ⊢ (|={Set.univ}=> ysEnd c k : sProp 𝕄) := by
  unfold ysDone ysEnd
  split
  · iintro ⟨-, H⟩; imodintro; iexact H
  · iintro ⟨#HI, Hm, Ha⟩
    imod (close_cell A B c K (ysS (sl k)) (ysS_ge _) (ysS_lt _) (role_ys _) 4 (fun r hr => if_neg (by omega))) $$ [Ha] with Hv
    · isplitr; · iexact HI
      iexact Ha
    imodintro
    isplitl [Hm]; · iexact Hm
    iexact Hv
theorem zs_close (k : Fin 8) : iprop(Ictx A B K ∗ zsDone c k) ⊢ (|={Set.univ}=> zsEnd c k : sProp 𝕄) := by
  unfold zsDone zsEnd
  split
  · iintro ⟨-, H⟩; imodintro; iexact H
  · iintro ⟨#HI, Hm, Ha⟩
    imod (close_cell A B c K (zsS (sl k)) (zsS_ge _) (zsS_lt _) (role_zs _) 4 (fun r hr => if_neg (by omega))) $$ [Ha] with Hv
    · isplitr; · iexact HI
      iexact Ha
    imodintro
    isplitl [Hm]; · iexact Hm
    iexact Hv
theorem yr_close (k : Fin 8) : iprop(Ictx A B K ∗ yrSt c 8 k) ⊢ (|={Set.univ}=> yrEnd c k : sProp 𝕄) := by
  unfold yrSt yrEnd
  rw [if_neg (by omega)]
  iintro ⟨#HI, Ha, Hm⟩
  imod (close_cell A B c K (yrS k) (yrS_ge _) (yrS_lt _) (role_yr _) (0 + 1) (fun r hr => if_neg (by omega))) $$ [Ha] with Hv
  · isplitr; · iexact HI
    iexact Ha
  imodintro
  isplitl [Hm]; · iexact Hm
  iexact Hv
theorem zr_close (k : Fin 8) : iprop(Ictx A B K ∗ zrSt c 8 k) ⊢ (|={Set.univ}=> zrEnd c k : sProp 𝕄) := by
  unfold zrSt zrEnd
  rw [if_neg (by omega)]
  iintro ⟨#HI, Ha, Hm⟩
  imod (close_cell A B c K (zrS k) (zrS_ge _) (zrS_lt _) (role_zr _) (0 + 1) (fun r hr => if_neg (by omega))) $$ [Ha] with Hv
  · isplitr; · iexact HI
    iexact Ha
  imodintro
  isplitl [Hm]; · iexact Hm
  iexact Hv

theorem bar_close : iprop(Ictx A B K ∗ atPos ER (barCell c) 1 ∅ 0) ⊢ (|={Set.univ}=> semVal (barCell c) 0 : sProp 𝕄) := by
  iintro ⟨#HI, Ha⟩
  iapply (cell_close ER (Rd A B) (g := barCell c) (κ := K (barCell c)) (Set.mem_univ _) (fun h => h) (R := 1) (fun r hr => by
    rw [duties_of A B c role_bar]; exact if_neg (by omega)))
  isplitr; · iapply (Ictx_get A B K (mem_bar c)); iexact HI
  iexact Ha

/-- A family closed cell by cell. -/
theorem close_all {Φ Ψ : Fin 8 → sProp 𝕄} (h : ∀ k, iprop(Ictx A B K ∗ Φ k) ⊢ (|={Set.univ}=> Ψ k : sProp 𝕄)) :
    iprop(Ictx A B K ∗ bigSep Finset.univ Φ) ⊢ (|={Set.univ}=> bigSep Finset.univ Ψ : sProp 𝕄) :=
  (bigSep_with_persistent fun k _ => h k).trans (bigSep_fupd _ _)

/-! ## The whole run -/

/-- What a device leaves with: the result's blocks, every buffer, every cell at zero, nothing owed. -/
def End : sProp 𝕄 :=
  iprop(own c dysrcM.view (A c) ∗ semVal (barCell c) 0 ∗ own c dyM.view (A c) ∗ semVal (dc c dyS) 0 ∗ bigSep Finset.univ (wSt B c 8)
    ∗ bigSep Finset.univ (pEnd A B c) ∗ bigSep Finset.univ (ysEnd c) ∗ bigSep Finset.univ (yrEnd c)
    ∗ bigSep Finset.univ (zsEnd c) ∗ bigSep Finset.univ (zrEnd c) ∗ bigSep Finset.univ (ozEnd A B c)
    ∗ ∃ W, owes (c : Thread nD τ) (0 : CellTallies nD τ sig Unit) W)

set_option maxHeartbeats 2000000 in
theorem run :
    iprop(Ictx A B K ∗ levAts L lv ∗ Start1 A B c ∗ Start2 c ∗ Rest A B c)
      ⊢ wp frame (wpE (defs₀ (F := F)) 𝒱₀ (c : Thread nD τ) none) Set.univ
      (cc0_body (Memref.whole main_v10) (Memref.isWhole_whole _) (Memref.whole main_v11) (Memref.isWhole_whole _) (Memref.whole main_v12) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15) (fun _ => End A B c) := by
  rw [cc0_body_eq_skeleton]; unfold cc0_body_skel
  iintro ⟨#HI, #Hlv, H1, H2, HR⟩
  rw [wp_bind]
  iapply (wp_wand _ _ _ (Q := fun r => iprop(⌜∃ w2 w5 w8 w9 w10 w27 w0, r = ⟨c, w2, w5, w8, w9, w10, SemArray.scalar barrier0, w27, w0⟩⌝ ∗ Mid A B c))) $$ [H1]
  · iapply (part4 A B c K)
    isplitr; · iexact HI
    iexact H1
  iintro %r ⟨%hr, HM⟩
  obtain ⟨w2, w5, w8, w9, w10, w27, w0, rfl⟩ := hr
  rw [wp_bind]
  iapply (wp_wand _ _ _ (Q := fun _ => Tail A B c)) $$ [H2 HR HM]
  · iapply (part5 A B c K w2 w5 w8 w9 w10 w27 w0)
    isplitr; · iexact HI
    isplitr; · iexact Hlv
    isplitl [H2]; · iexact H2
    isplitl [HR]; · iexact HR
    iexact HM
  iintro %u HT
  unfold Tail
  icases HT with ⟨Hsrc, Hb, Hdy, Hdv, Hw, ⟨Hp7, Hp⟩, Hys, Hyr, Hzs, Hzr, Hoz, HO⟩
  ihave Hoz := (oz_left A B c) $$ Hoz
  icases Hoz with ⟨Hf6, Hf7, Hoz⟩
  ihave Hf := (show ozFly A B c 6 ⊢ Flight EC (c : Thread nD τ) (.dma (ozS (sl 6))) () NO
    iprop(own c (outM (oth c) 6).view (Zf A B c 6) ∗ own c (zfM (sl 6)).view (Zf A B c 6)) from .rfl) $$ Hf6
  iapply (wp_waitHere c (sem' := ozS (sl 6)) (a := 8) (b := 8) (sem2_eq _ ![0] _ 0 rfl (by decide)) (role_oz _) NO ?_) $$ [Hf HO]
  · rfl
  · isplitr; · iexact Hlv
    isplitl [Hf]; · iexact Hf
    iexact HO
  iintro ⟨⟨Ho, Hm⟩, Hv, HO⟩
  ihave Hoz := Hoz $$ [Ho Hm Hv]
  · unfold ozEnd zfIdle; rw [if_neg (by decide)]
    isplitl [Ho]; · iexact Ho
    isplitl [Hm]; · iapply (own_any _ _ _) $$ Hm
    iexact Hv
  icases Hys with ⟨⟨Hc, Ha⟩, Hys⟩
  iapply (wp_waitRound A B c K (sem' := ysS (sl 7)) (a := 8) (b := 8) (sem2_eq _ ![1] _ 1 rfl (by decide)) (ysS_ge _) (ysS_lt _) (role_ys (sl 7)) nofun 3 (by decide) ?_
    (by decide) (by decide) (P := ownAny c (ysM (sl 7)).view) rfl) $$ [Hc Ha HO]
  · rfl
  · isplitr; · iexact HI
    isplitr; · iexact Hlv
    isplitl [Hc]; · iexact Hc
    isplitl [Ha]; · iexact Ha
    iexact HO
  iintro ⟨HO, Ha, -, Hm⟩
  ihave Hys := Hys $$ [Ha Hm]
  · unfold ysDone; rw [if_neg (by decide)]
    isplitl [Hm]; · iexact Hm
    iexact Ha
  icases Hzs with ⟨⟨Hc, Ha⟩, Hzs⟩
  iapply (wp_waitRound A B c K (sem' := zsS (sl 7)) (a := 8) (b := 8) (sem2_eq _ ![1] _ 1 rfl (by decide)) (zsS_ge _) (zsS_lt _) (role_zs (sl 7)) nofun 3 (by decide) ?_
    (by decide) (by decide) (P := ownAny c (zsM (sl 7)).view) rfl) $$ [Hc Ha HO]
  · rfl
  · isplitr; · iexact HI
    isplitr; · iexact Hlv
    isplitl [Hc]; · iexact Hc
    isplitl [Ha]; · iexact Ha
    iexact HO
  iintro ⟨HO, Ha, -, Hm⟩
  ihave Hzs := Hzs $$ [Ha Hm]
  · unfold zsDone; rw [if_neg (by decide)]
    isplitl [Hm]; · iexact Hm
    iexact Ha
  ihave Hf := (show oyFly A B c 7 ⊢ Flight EC (c : Thread nD τ) (.dma (oyS (sl 7))) () NO
    iprop(own c (outM (own₀ c) 7).view (Qv A B c 7) ∗ own c (pM (sl 7)).view (Qv A B c 7)) from .rfl) $$ Hp7
  iapply (wp_waitHere c (sem' := oyS (sl 7)) (a := 8) (b := 8) (sem2_eq _ ![1] _ 1 rfl (by decide)) (role_oy _) NO ?_) $$ [Hf HO]
  · rfl
  · isplitr; · iexact Hlv
    isplitl [Hf]; · iexact Hf
    iexact HO
  iintro ⟨⟨Ho, Hm⟩, Hv, HO⟩
  ihave Hp := Hp $$ [Ho Hm Hv]
  · unfold pEnd pIdle; rw [if_neg (by decide)]
    isplitl [Ho]; · iexact Ho
    isplitl [Hm]; · iapply (own_any _ _ _) $$ Hm
    iexact Hv
  ihave Hf := (show ozFly A B c 7 ⊢ Flight EC (c : Thread nD τ) (.dma (ozS (sl 7))) () NO
    iprop(own c (outM (oth c) 7).view (Zf A B c 7) ∗ own c (zfM (sl 7)).view (Zf A B c 7)) from .rfl) $$ Hf7
  iapply (wp_waitHere c (sem' := ozS (sl 7)) (a := 8) (b := 8) (sem2_eq _ ![1] _ 1 rfl (by decide)) (role_oz _) NO ?_) $$ [Hf HO]
  · rfl
  · isplitr; · iexact Hlv
    isplitl [Hf]; · iexact Hf
    iexact HO
  iintro ⟨⟨Ho, Hm⟩, Hv, HO⟩
  ihave Hoz := Hoz $$ [Ho Hm Hv]
  · unfold ozEnd zfIdle; rw [if_neg (by decide)]
    isplitl [Ho]; · iexact Ho
    isplitl [Hm]; · iapply (own_any _ _ _) $$ Hm
    iexact Hv
  rw [ret_bind, wp_pure]
  imod (bar_close A B c K) $$ [Hb] with Hb
  · isplitr; · iexact HI
    iexact Hb
  imod (close_all A B K (ys_close A B c K)) $$ [Hys] with Hys
  · isplitr; · iexact HI
    iexact Hys
  imod (close_all A B K (zs_close A B c K)) $$ [Hzs] with Hzs
  · isplitr; · iexact HI
    iexact Hzs
  imod (close_all A B K (yr_close A B c K)) $$ [Hyr] with Hyr
  · isplitr; · iexact HI
    iexact Hyr
  imod (close_all A B K (zr_close A B c K)) $$ [Hzr] with Hzr
  · isplitr; · iexact HI
    iexact Hzr
  imodintro
  unfold End owing
  rw [O_done c (Nat.le_refl 8) (Nat.le_refl 8)]
  isplitl [Hsrc]; · iexact Hsrc
  isplitl [Hb]; · iexact Hb
  isplitl [Hdy]; · iexact Hdy
  isplitl [Hdv]; · iexact Hdv
  isplitl [Hw]; · iexact Hw
  isplitl [Hp]; · iexact Hp
  isplitl [Hys]; · iexact Hys
  isplitl [Hyr]; · iexact Hyr
  isplitl [Hzs]; · iexact Hzs
  isplitl [Hzr]; · iexact Hzr
  isplitl [Hoz]; · iexact Hoz
  iexact HO

end Run

end Cert.Proof

end
-- ==== Proof.Blocks.lean ====
/-
  Buffers held whole and the windows of the kernel: a buffer cut into the unit rectangles the kernel reads and writes,
  and put together again; the contents of the whole result named.
-/
module

public import proofs.«01_k».proof.Proof.Run
public import Idealize.ShloMosaic.Lib.Ring

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## A buffer and a partition of it into rectangles -/

theorem own_intro (c : Dev nD) {sp : Space} {s : Shape} {e : EltTy} (v : View sig .tc sp s e) (f : Buf (Elt F) (v.loc (c : Thread nD τ))) :
    (v.loc (c : Thread nD τ) ↦[v.set]{fullShare} f : sProp 𝕄) ⊢ own c v (v.read (Elt F) f) := by
  unfold own
  iintro H; iexists f
  isplitr; · ipureintro; rfl
  iexact H

theorem read_inj {sp : Space} {s : Shape} {e : EltTy} (v : View sig .tc sp s e) {f g : v.ty.Contents (Elt F)}
    (h : v.read (Elt F) f = v.read (Elt F) g) : ∀ i ∈ v.set, f i = g i := fun i hi => by
  obtain ⟨x, -, rfl⟩ := Finset.mem_map.mp hi
  have hx := congrFun h x
  rw [View.read_apply, View.read_apply] at hx
  exact cast_inj _ |>.mp hx

theorem own_elim (c : Dev nD) {sp : Space} {s : Shape} {e : EltTy} (v : View sig .tc sp s e) (g : Buf (Elt F) (v.loc (c : Thread nD τ)))
    (w : s.Idx → Elt F e) (h : v.read (Elt F) g = w) :
    own c v w ⊢ (v.loc (c : Thread nD τ) ↦[v.set]{fullShare} g : sProp 𝕄) := by
  unfold own
  iintro ⟨%f, %hf, H⟩
  iapply (Entails.of_eq (pointsTo_congr (read_inj v (hf.trans h.symm)))) $$ H

section
variable {B : Type} [Fintype B] [DecidableEq B] (b : Ref sig .tc) (r : B → Rect b.ty.shape)
  (hd : ∀ t t', t ≠ t' → Disjoint (r t).set (r t').set) (hc : Finset.univ.biUnion (fun t => (r t).set) = Finset.univ) (c : Dev nD)

include hd hc in
/-- A buffer held whole, cut. -/
theorem cut (f : Buf (Elt F) ((c : Thread nD τ).loc b)) :
    ((c : Thread nD τ).loc b ↦{fullShare} f : sProp 𝕄)
      ⊢ bigSep Finset.univ fun t => own c ((View.whole b).slice (r t)) (((View.whole b).slice (r t)).read (Elt F) f) := by
  rw [Ring.pointsTo_blocks (fun t => (r t).set) hd hc f]
  refine bigSep_mono fun t _ => ?_
  have h := own_intro c ((View.whole b).slice (r t)) f
  rw [View.set_slice_whole] at h
  exact h

include hd hc in
theorem cutAny (f : Buf (Elt F) ((c : Thread nD τ).loc b)) :
    ((c : Thread nD τ).loc b ↦{fullShare} f : sProp 𝕄)
      ⊢ bigSep Finset.univ fun t => ownAny c ((View.whole b).slice (r t)) :=
  (cut b r hd hc c f).trans (bigSep_mono fun t _ => own_any c _ _)

include hd hc in
/-- The windows at known contents, put together. -/
theorem paste (g : Buf (Elt F) ((c : Thread nD τ).loc b)) (w : (t : B) → (r t).shape.Idx → Elt F b.ty.elt)
    (h : ∀ t, ((View.whole b).slice (r t)).read (Elt F) g = w t) :
    bigSep Finset.univ (fun t => own c ((View.whole b).slice (r t)) (w t)) ⊢ ((c : Thread nD τ).loc b ↦{fullShare} g : sProp 𝕄) := by
  rw [Ring.pointsTo_blocks (fun t => (r t).set) hd hc g]
  refine bigSep_mono fun t _ => ?_
  have h := own_elim c ((View.whole b).slice (r t)) g (w t) (h t)
  rw [View.set_slice_whole] at h
  exact h

include hd hc in
/-- The windows at any contents, put together. -/
theorem pasteAny :
    bigSep Finset.univ (fun t => ownAny c ((View.whole b).slice (r t)))
      ⊢ (iprop(∃ g, (c : Thread nD τ).loc b ↦{fullShare} g) : sProp 𝕄) := by
  refine (bigSep_mono fun t _ => ?_).trans (Ring.pointsTo_blocks_join_exists (fun t => (r t).set) hd hc (fun _ => Classical.arbitrary _))
  unfold ownAny
  rw [View.set_slice_whole]
  exact (Entails.of_eq rfl : (_ : sProp 𝕄) ⊢ _)
end

/-! ## The partitions of this kernel -/

section
variable {s : Shape} {n : ℕ} (off : Fin n → Fin s.rank → ℕ) (size : Fin s.rank → ℕ) (inb : ∀ k a, off k a + size a ≤ s.size a)
  (a : Fin s.rank) (hoff : ∀ k, off k a = size a * k.val)

include hoff in
theorem slab_disj (k k' : Fin n) (h : k ≠ k') :
    Disjoint (Rect.unit (off k) size (inb k)).set (Rect.unit (off k') size (inb k')).set := by
  refine Rect.unit_disjoint a ?_
  rw [hoff, hoff]
  rcases Nat.lt_or_gt_of_ne (fun e => h (Fin.ext e)) with h | h
  · left; rw [← Nat.mul_succ]; exact Nat.mul_le_mul_left _ h
  · right; rw [← Nat.mul_succ]; exact Nat.mul_le_mul_left _ h

include hoff in
theorem slab_cover (hn : s.size a = size a * n) (ho : ∀ k a', a' ≠ a → off k a' = 0 ∧ size a' = s.size a') :
    Finset.univ.biUnion (fun k => (Rect.unit (off k) size (inb k)).set) = Finset.univ := by
  refine Finset.eq_univ_iff_forall.mpr fun i => Finset.mem_biUnion.mpr ?_
  have hi : (i a).val < size a * n := hn ▸ (i a).isLt
  have hp : 0 < size a := by rcases Nat.eq_zero_or_pos (size a) with h | h; · rw [h, Nat.zero_mul] at hi; omega
                             exact h
  refine ⟨⟨(i a).val / size a, Nat.div_lt_of_lt_mul hi⟩, Finset.mem_univ _, Rect.mem_set_unit.mpr fun a' => ?_⟩
  by_cases h : a' = a
  · subst h
    rw [hoff]
    exact ⟨Nat.mul_div_le _ _, by rw [← Nat.mul_succ]; exact Nat.lt_mul_div_succ _ hp⟩
  · obtain ⟨h0, h1⟩ := ho ⟨(i a).val / size a, Nat.div_lt_of_lt_mul hi⟩ a' h
    rw [h0, h1, Nat.zero_add]
    exact ⟨Nat.zero_le _, (i a').isLt⟩
end

/-- A slot of the two-slot buffers. -/
abbrev slotR (k : Fin 2) : Rect S2048x256 := Rect.unit ![1024 * k.val, 0] S1024x256.size (slotInb k)
theorem slot_disj : ∀ k k' : Fin 2, k ≠ k' → Disjoint (slotR k).set (slotR k').set :=
  slab_disj (s := S2048x256) (fun k : Fin 2 => ![1024 * k.val, 0]) S1024x256.size slotInb (0 : Fin 2) fun _ => rfl
theorem slot_cover : Finset.univ.biUnion (fun k => (slotR k).set) = Finset.univ :=
  slab_cover (s := S2048x256) (fun k : Fin 2 => ![1024 * k.val, 0]) S1024x256.size slotInb (0 : Fin 2) (fun _ => rfl) rfl (by decide)
/-- A landing slot. -/
abbrev recvR (k : Fin 8) : Rect S8192x256 := Rect.unit ![1024 * k.val, 0] S1024x256.size (recvInb k)
theorem recv_disj : ∀ k k' : Fin 8, k ≠ k' → Disjoint (recvR k).set (recvR k').set :=
  slab_disj (s := S8192x256) (fun k : Fin 8 => ![1024 * k.val, 0]) S1024x256.size recvInb (0 : Fin 2) fun _ => rfl
theorem recv_cover : Finset.univ.biUnion (fun k => (recvR k).set) = Finset.univ :=
  slab_cover (s := S8192x256) (fun k : Fin 8 => ![1024 * k.val, 0]) S1024x256.size recvInb (0 : Fin 2) (fun _ => rfl) rfl (by decide)
/-- A slot of rows of w. -/
abbrev wslotR (k : Fin 2) : Rect S512x8192 := Rect.unit ![256 * k.val, 0] S256x8192.size (wslotInb k)
theorem wslot_disj : ∀ k k' : Fin 2, k ≠ k' → Disjoint (wslotR k).set (wslotR k').set :=
  slab_disj (s := S512x8192) (fun k : Fin 2 => ![256 * k.val, 0]) S256x8192.size wslotInb (0 : Fin 2) fun _ => rfl
theorem wslot_cover : Finset.univ.biUnion (fun k => (wslotR k).set) = Finset.univ :=
  slab_cover (s := S512x8192) (fun k : Fin 2 => ![256 * k.val, 0]) S256x8192.size wslotInb (0 : Fin 2) (fun _ => rfl) rfl (by decide)
/-- A chunk of rows of w. -/
abbrev wsrcR (k : Fin 8) : Rect S2048x8192 := Rect.unit ![256 * k.val, 0] S256x8192.size (wsrcInb k)
theorem wsrc_disj : ∀ k k' : Fin 8, k ≠ k' → Disjoint (wsrcR k).set (wsrcR k').set :=
  slab_disj (s := S2048x8192) (fun k : Fin 8 => ![256 * k.val, 0]) S256x8192.size wsrcInb (0 : Fin 2) fun _ => rfl
theorem wsrc_cover : Finset.univ.biUnion (fun k => (wsrcR k).set) = Finset.univ :=
  slab_cover (s := S2048x8192) (fun k : Fin 8 => ![256 * k.val, 0]) S256x8192.size wsrcInb (0 : Fin 2) (fun _ => rfl) rfl (by decide)

/-- The block of the result at row half t.1, chunk t.2. -/
def outR (t : Fin 2 × Fin 8) : Rect S2048x2048 :=
  Rect.unit ![1024 * t.1.val, 256 * t.2.val] S1024x256.size (outInb t.1 t.2)

theorem out_disj (t t' : Fin 2 × Fin 8) (h : t ≠ t') : Disjoint (outR t).set (outR t').set := by
  by_cases h1 : t.1 = t'.1
  · have h2 : t.2.val ≠ t'.2.val := fun e => h (Prod.ext h1 (Fin.ext e))
    refine Rect.unit_disjoint (1 : Fin 2) ?_
    show 256 * t.2.val + 256 ≤ 256 * t'.2.val ∨ 256 * t'.2.val + 256 ≤ 256 * t.2.val
    omega
  · have h1 : t.1.val ≠ t'.1.val := fun e => h1 (Fin.ext e)
    refine Rect.unit_disjoint (0 : Fin 2) ?_
    show 1024 * t.1.val + 1024 ≤ 1024 * t'.1.val ∨ 1024 * t'.1.val + 1024 ≤ 1024 * t.1.val
    omega

theorem out_cover : Finset.univ.biUnion (fun t => (outR t).set) = Finset.univ := by
  refine Finset.eq_univ_iff_forall.mpr fun i => Finset.mem_biUnion.mpr ?_
  have h0 : (i (0 : Fin 2)).val < 2048 := (i (0 : Fin 2)).isLt
  have h1 : (i (1 : Fin 2)).val < 2048 := (i (1 : Fin 2)).isLt
  refine ⟨(⟨(i (0 : Fin 2)).val / 1024, by omega⟩, ⟨(i (1 : Fin 2)).val / 256, by omega⟩), Finset.mem_univ _, Rect.mem_set_unit.mpr fun a => ?_⟩
  match a with
  | ⟨0, _⟩ =>
    show 1024 * ((i (0 : Fin 2)).val / 1024) ≤ (i (0 : Fin 2)).val ∧ (i (0 : Fin 2)).val < 1024 * ((i (0 : Fin 2)).val / 1024) + 1024
    omega
  | ⟨1, _⟩ =>
    show 256 * ((i (1 : Fin 2)).val / 256) ≤ (i (1 : Fin 2)).val ∧ (i (1 : Fin 2)).val < 256 * ((i (1 : Fin 2)).val / 256) + 256
    omega

/-! ## The result's contents -/

variable (A : Dev nD → Vec F S1024x8192 .bf16) (B : Dev nD → Vec F S2048x8192 .bf16)

theorem blkPos (a : Fin S1024x256.rank) : 0 < S1024x256.size a := by revert a; decide

/-- The index of an element within its block of the result. -/
def inBlk (i : S2048x2048.Idx) : S1024x256.Idx := fun a => ⟨(i a).val % S1024x256.size a, Nat.mod_lt _ (blkPos a)⟩
/-- The chunk of an element of the result. -/
def chunkOf (i : S2048x2048.Idx) : Fin 8 := ⟨(i (1 : Fin 2)).val / 256, Nat.div_lt_of_lt_mul (i (1 : Fin 2)).isLt⟩

/-- Device c's result: its own half of the rows holds the sums it made, the other half those of its partner across z. -/
def outV (c : Dev nD) : Vec F S2048x2048 .f32 := fun i =>
  if (i (0 : Fin 2)).val / 1024 = (own₀ c).val then Qv A B c (chunkOf i) (inBlk i) else Zf A B c (chunkOf i) (inBlk i)

theorem outV_emb (c : Dev nD) (t : Fin 2 × Fin 8) (x : S1024x256.Idx) :
    outV A B c ((outR t).emb x) = if t.1.val = (own₀ c).val then Qv A B c t.2 x else Zf A B c t.2 x := by
  have e0 : (((outR t).emb x) (0 : Fin 2)).val = 1024 * t.1.val + 1 * (x (0 : Fin 2)).val := rfl
  have e1 : (((outR t).emb x) (1 : Fin 2)).val = 256 * t.2.val + 1 * (x (1 : Fin 2)).val := rfl
  have l0 : (x (0 : Fin 2)).val < 1024 := (x (0 : Fin 2)).isLt
  have l1 : (x (1 : Fin 2)).val < 256 := (x (1 : Fin 2)).isLt
  have hk : chunkOf ((outR t).emb x) = t.2 := Fin.ext (by show (((outR t).emb x) (1 : Fin 2)).val / 256 = _; rw [e1]; omega)
  have hx : inBlk ((outR t).emb x) = x := funext fun a => Fin.ext (by
    match a with
    | ⟨0, _⟩ => show (((outR t).emb x) (0 : Fin 2)).val % 1024 = (x (0 : Fin 2)).val; rw [e0]; omega
    | ⟨1, _⟩ => show (((outR t).emb x) (1 : Fin 2)).val % 256 = (x (1 : Fin 2)).val; rw [e1]; omega)
  have hr : (((outR t).emb x) (0 : Fin 2)).val / 1024 = t.1.val := by rw [e0]; omega
  unfold outV
  rw [hr, hk, hx]

theorem outV_read (c : Dev nD) (t : Fin 2 × Fin 8) :
    (outM t.1 t.2).view.read (Elt F) (outV A B c) = if t.1.val = (own₀ c).val then Qv A B c t.2 else Zf A B c t.2 := by
  funext x
  rw [View.read_apply]
  refine (outV_emb A B c t x).trans ?_
  split <;> rfl

end Cert.Proof

end
-- ==== Proof.Ends.lean ====
/-
  The two ends of the kernel on one device: what the launch hands over (buffers whole, cells opened, tokens and credits)
  makes the state the body starts from, and the state the body ends in gives everything back.
-/
module

public import proofs.«01_k».proof.Proof.Blocks
public import Idealize.ShloMosaic.Lib.Pipeline.BigSepL

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Families over the semaphores and over the chunks -/

section
variable {M : Type} [URA M]

theorem sems_all (Φ : DmaSem sig → sProp M) : bigSep Finset.univ Φ
    = iprop(Φ dyS ∗ (bigSep Finset.univ fun s => Φ (wS s)) ∗ (bigSep Finset.univ fun i => Φ (scS i))
      ∗ (bigSep Finset.univ fun s => Φ (oyS s)) ∗ (bigSep Finset.univ fun s => Φ (ozS s))) := by
  rw [bigSep_univ_eq_bigSepL ([dyS] ++ ((List.finRange 2).map wS ++ ((List.finRange 20).map scS
      ++ ((List.finRange 2).map oyS ++ (List.finRange 2).map ozS)))) (by decide) (by decide),
    bigSep_univ_eq_bigSepL (List.finRange 20) (by decide) (by decide), bigSep_univ_eq_bigSepL (List.finRange 2) (by decide) (by decide),
    bigSep_univ_eq_bigSepL (List.finRange 2) (by decide) (by decide), bigSep_univ_eq_bigSepL (List.finRange 2) (by decide) (by decide)]
  rw [bigSepL_append, bigSepL_append, bigSepL_append, bigSepL_append, bigSepL_map, bigSepL_map, bigSepL_map, bigSepL_map]
  rfl

theorem sems_sc (Φ : DmaSem sig → sProp M) : (bigSep Finset.univ fun i => Φ (scS i))
    = iprop((bigSep Finset.univ fun s => Φ (ysS s)) ∗ (bigSep Finset.univ fun k => Φ (yrS k))
      ∗ (bigSep Finset.univ fun s => Φ (zsS s)) ∗ (bigSep Finset.univ fun k => Φ (zrS k))) := by
  have e : (List.finRange 20).map scS = (List.finRange 2).map ysS ++ ((List.finRange 8).map yrS
      ++ ((List.finRange 2).map zsS ++ (List.finRange 8).map zrS)) := by decide
  rw [bigSep_univ_eq_bigSepL (List.finRange 20) (by decide) (by decide), ← bigSepL_map scS, e,
    bigSep_univ_eq_bigSepL (List.finRange 2) (by decide) (by decide), bigSep_univ_eq_bigSepL (List.finRange 8) (by decide) (by decide),
    bigSep_univ_eq_bigSepL (List.finRange 2) (by decide) (by decide), bigSep_univ_eq_bigSepL (List.finRange 8) (by decide) (by decide)]
  rw [bigSepL_append, bigSepL_append, bigSepL_append, bigSepL_map, bigSepL_map, bigSepL_map, bigSepL_map]

/-- A family over the slots, as the first two chunks'; -/
theorem first2 (Φ : Fin 2 → sProp M) :
    bigSep Finset.univ Φ = bigSep Finset.univ fun k : Fin 8 => if k.val < 2 then Φ (sl k) else iprop(emp) := by
  rw [bigSep_univ_eq_bigSepL [0, 1] (by decide) (by decide), bigSep_univ_eq_bigSepL [0, 1, 2, 3, 4, 5, 6, 7] (by decide) (by decide)]
  show iprop(Φ 0 ∗ Φ 1) = iprop(Φ 0 ∗ Φ 1 ∗ emp ∗ emp ∗ emp ∗ emp ∗ emp ∗ emp)
  have e : ∀ P : sProp M, iprop(P ∗ emp) = P := fun P => BI.equiv_iff.mp BI.sep_emp
  rw [e, e, e, e, e, e]
/-- and as the last two chunks'. -/
theorem last2 (Φ : Fin 2 → sProp M) :
    (bigSep Finset.univ fun k : Fin 8 => if k.val < 6 then iprop(emp) else Φ (sl k)) = bigSep Finset.univ Φ := by
  rw [bigSep_univ_eq_bigSepL [0, 1, 2, 3, 4, 5, 6, 7] (by decide) (by decide), bigSep_univ_eq_bigSepL [0, 1] (by decide) (by decide)]
  show iprop(emp ∗ emp ∗ emp ∗ emp ∗ emp ∗ emp ∗ Φ 0 ∗ Φ 1) = iprop(Φ 0 ∗ Φ 1)
  have e : ∀ P : sProp M, iprop(emp ∗ P) = P := fun P => BI.equiv_iff.mp BI.emp_sep
  rw [e, e, e, e, e, e]

/-- The blocks of the result, as a device sees them: its own row half and the other. -/
theorem halves (c : Dev nD) (Φ : Fin 2 × Fin 8 → sProp M) : bigSep Finset.univ Φ
    = iprop((bigSep Finset.univ fun k => Φ (own₀ c, k)) ∗ bigSep Finset.univ fun k => Φ (oth c, k)) := by
  rw [bigSep_univ_prod, bigSep_univ_eq_bigSepL [own₀ c, oth c] (by revert c; decide) (by revert c; decide)]
  rfl
end

section Ends
variable (A : Dev nD → Vec F S1024x8192 .bf16) (B : Dev nD → Vec F S2048x8192 .bf16) (c : Dev nD) (K : GSem nD τ sig → ℕ)

theorem whole_intro (b : Ref sig .tc) (f : Buf (Elt F) ((c : Thread nD τ).loc b)) :
    ((c : Thread nD τ).loc b ↦{fullShare} f : sProp 𝕄) ⊢ own c (View.whole b) f := by
  have h := own_intro c (View.whole b) f
  rw [View.set_whole] at h
  exact h
theorem whole_elim (b : Ref sig .tc) (f : Buf (Elt F) ((c : Thread nD τ).loc b)) :
    own c (View.whole b) f ⊢ ((c : Thread nD τ).loc b ↦{fullShare} f : sProp 𝕄) := by
  have h := own_elim c (View.whole b) f f rfl
  rw [View.set_whole] at h
  exact h
theorem whole_any (b : Ref sig .tc) :
    ownAny c (View.whole b) ⊢ (iprop(∃ f : Buf (Elt F) ((c : Thread nD τ).loc b), (c : Thread nD τ).loc b ↦{fullShare} f) : sProp 𝕄) := by
  unfold ownAny
  rw [View.set_whole]

/-! ## The scratch buffers, cut and put together -/

/-- The scratch buffers, each whole at some contents. -/
def Scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f)
    ∗ (∃ f : Buf (Elt F) ((c : Thread nD τ).loc cc0_scratch6), (c : Thread nD τ).loc cc0_scratch6 ↦{fullShare} f)
    ∗ (∃ f : Buf (Elt F) ((c : Thread nD τ).loc cc0_scratch7), (c : Thread nD τ).loc cc0_scratch7 ↦{fullShare} f))

/-- The same, window by window. -/
def Slots : sProp 𝕄 :=
  iprop(ownAny c dyM.view ∗ (bigSep Finset.univ fun s => ownAny c (wM s).view) ∗ (bigSep Finset.univ fun s => ownAny c (pM s).view)
    ∗ (bigSep Finset.univ fun s => ownAny c (ysM s).view) ∗ (bigSep Finset.univ fun k => ownAny c (yrM k).view)
    ∗ (bigSep Finset.univ fun s => ownAny c (zsM s).view) ∗ (bigSep Finset.univ fun k => ownAny c (zrM k).view)
    ∗ (bigSep Finset.univ fun s => ownAny c (zfM s).view))

theorem slots_of_scratch : Scratch c ⊢ (Slots c : sProp 𝕄) := by
  unfold Scratch Slots
  iintro ⟨⟨%f0, H0⟩, ⟨%f1, H1⟩, ⟨%f2, H2⟩, ⟨%f3, H3⟩, ⟨%f4, H4⟩, ⟨%f5, H5⟩, ⟨%f6, H6⟩, ⟨%f7, H7⟩⟩
  isplitl [H0]; · iapply (own_any c dyM.view _); iapply (whole_intro c cc0_scratch0 f0) $$ H0
  isplitl [H1]; · iapply (cutAny cc0_scratch1 wslotR wslot_disj wslot_cover c f1) $$ H1
  isplitl [H2]; · iapply (cutAny cc0_scratch2 slotR slot_disj slot_cover c f2) $$ H2
  isplitl [H3]; · iapply (cutAny cc0_scratch3 slotR slot_disj slot_cover c f3) $$ H3
  isplitl [H4]; · iapply (cutAny cc0_scratch4 recvR recv_disj recv_cover c f4) $$ H4
  isplitl [H5]; · iapply (cutAny cc0_scratch5 slotR slot_disj slot_cover c f5) $$ H5
  isplitl [H6]; · iapply (cutAny cc0_scratch6 recvR recv_disj recv_cover c f6) $$ H6
  iapply (cutAny cc0_scratch7 slotR slot_disj slot_cover c f7) $$ H7

theorem scratch_of_slots : Slots c ⊢ (Scratch c : sProp 𝕄) := by
  unfold Scratch Slots
  iintro ⟨H0, H1, H2, H3, H4, H5, H6, H7⟩
  isplitl [H0]
  · iapply (whole_any c cc0_scratch0) $$ H0
  isplitl [H1]; · iapply (pasteAny cc0_scratch1 wslotR wslot_disj wslot_cover c) $$ H1
  isplitl [H2]; · iapply (pasteAny cc0_scratch2 slotR slot_disj slot_cover c) $$ H2
  isplitl [H3]; · iapply (pasteAny cc0_scratch3 slotR slot_disj slot_cover c) $$ H3
  isplitl [H4]; · iapply (pasteAny cc0_scratch4 recvR recv_disj recv_cover c) $$ H4
  isplitl [H5]; · iapply (pasteAny cc0_scratch5 slotR slot_disj slot_cover c) $$ H5
  isplitl [H6]; · iapply (pasteAny cc0_scratch6 recvR recv_disj recv_cover c) $$ H6
  iapply (pasteAny cc0_scratch7 slotR slot_disj slot_cover c) $$ H7

/-! ## The operands and the result -/

theorem w_cut : ((c : Thread nD τ).loc main_v11 ↦{fullShare} B c : sProp 𝕄)
    ⊢ bigSep Finset.univ fun k => own c (wsrcM k).view (Wc B c k) :=
  cut main_v11 wsrcR wsrc_disj wsrc_cover c (B c)
theorem w_paste : (bigSep Finset.univ fun k => own c (wsrcM k).view (Wc B c k))
    ⊢ ((c : Thread nD τ).loc main_v11 ↦{fullShare} B c : sProp 𝕄) :=
  paste main_v11 wsrcR wsrc_disj wsrc_cover c (B c) (fun k => Wc B c k) fun _ => rfl

theorem out_cut (f : Buf (Elt F) ((c : Thread nD τ).loc main_v12)) : ((c : Thread nD τ).loc main_v12 ↦{fullShare} f : sProp 𝕄)
    ⊢ iprop((bigSep Finset.univ fun k => ownAny c (outM (own₀ c) k).view) ∗ bigSep Finset.univ fun k => ownAny c (outM (oth c) k).view) :=
  (cutAny main_v12 outR out_disj out_cover c f).trans
    (Entails.of_eq (halves c fun t => ownAny c (outM t.1 t.2).view))

theorem oth_ne : (oth c).val ≠ (own₀ c).val := by revert c; decide

theorem out_paste :
    iprop((bigSep Finset.univ fun k => own c (outM (own₀ c) k).view (Qv A B c k)) ∗ bigSep Finset.univ fun k => own c (outM (oth c) k).view (Zf A B c k))
      ⊢ ((c : Thread nD τ).loc main_v12 ↦{fullShare} outV A B c : sProp 𝕄) := by
  refine BI.Entails.trans ?_ (paste main_v12 outR out_disj out_cover c (outV A B c)
    (fun t => if t.1.val = (own₀ c).val then Qv A B c t.2 else Zf A B c t.2) (outV_read A B c))
  refine BI.Entails.trans ?_ (Entails.of_eq (halves c fun t => own c (outM t.1 t.2).view (if t.1.val = (own₀ c).val then Qv A B c t.2 else Zf A B c t.2)).symm)
  exact sep_mono (bigSep_mono fun k _ => Entails.of_eq (congrArg (own c (outM (own₀ c) k).view) (if_pos rfl).symm))
    (bigSep_mono fun k _ => Entails.of_eq (congrArg (own c (outM (oth c) k).view) (if_neg (oth_ne c)).symm))

/-! ## What the launch hands over -/

/-- The tokens of the duties device c pays. -/
def Toks : sProp 𝕄 :=
  iprop((dutyTok ER (barCell (yN c)) 0 false ∗ dutyTok ER (barCell (zN c)) 0 true)
    ∗ (bigSep Finset.univ fun k => iprop(dutyTok ER (dc c (ysS (sl k))) (k.val / 2) false ∗ dutyTok ER (dc (yN c) (yrS k)) 0 false))
    ∗ bigSep Finset.univ fun k => iprop(dutyTok ER (dc c (zsS (sl k))) (k.val / 2) false ∗ dutyTok ER (dc (zN c) (zrS k)) 0 false))
/-- The credits for what others owe device c. -/
def Creds : sProp 𝕄 :=
  iprop(cred (tallyAt (barCell c) () 2) ∗ (bigSep Finset.univ fun k => cred (tallyAt (dc c (yrS k)) () NR))
    ∗ bigSep Finset.univ fun k => cred (tallyAt (dc c (zrS k)) () NR))
/-- The ghost state of the protocol on device c, its scoped cells apart. -/
def Ghost : sProp 𝕄 :=
  iprop(Ictx A B K ∗ (reached ER (barCell (yN c)) 0 ∗ reached ER (barCell (zN c)) 0) ∗ atPos ER (barCell c) 0 ∅ 0 ∗ Toks c ∗ Creds c)
def opened (s : DmaSem sig) : sProp 𝕄 := iprop(atPos ER (dc c s) 0 ∅ 0 ∗ reached ER (dc c s) 0)
/-- Its scoped cells, those of the protocol opened. -/
def Cells : sProp 𝕄 :=
  iprop(semVal (dc c dyS) 0 ∗ (bigSep Finset.univ fun s => semVal (dc c (wS s)) 0) ∗ (bigSep Finset.univ fun i => opened c (scS i))
    ∗ (bigSep Finset.univ fun s => semVal (dc c (oyS s)) 0) ∗ (bigSep Finset.univ fun s => semVal (dc c (ozS s)) 0))
def Operands : sProp 𝕄 :=
  iprop(((c : Thread nD τ).loc main_v10 ↦{fullShare} A c) ∗ ((c : Thread nD τ).loc main_v11 ↦{fullShare} B c))

theorem w_start (k : Fin 8) :
    iprop(own c (wsrcM k).view (Wc B c k) ∗ if k.val < 2 then iprop(ownAny c (wM (sl k)).view ∗ semVal (dc c (wS (sl k))) 0) else iprop(emp)) ⊢ wPre B c k := by
  unfold wPre wIdle
  split
  · exact BI.Entails.refl _
  · iintro ⟨H, -⟩; iexact H
theorem ys_start (k : Fin 8) :
    iprop((dutyTok ER (dc c (ysS (sl k))) (k.val / 2) false ∗ dutyTok ER (dc (yN c) (yrS k)) 0 false)
      ∗ if k.val < 2 then iprop(ownAny c (ysM (sl k)).view ∗ opened c (ysS (sl k))) else iprop(emp)) ⊢ (ysPre c k : sProp 𝕄) := by
  unfold ysPre ysIdle opened
  split
  · next h => rw [show k.val / 2 = 0 by omega]
  · exact BI.Entails.refl _
theorem zs_start (k : Fin 8) :
    iprop((dutyTok ER (dc c (zsS (sl k))) (k.val / 2) false ∗ dutyTok ER (dc (zN c) (zrS k)) 0 false)
      ∗ if k.val < 2 then iprop(ownAny c (zsM (sl k)).view ∗ opened c (zsS (sl k))) else iprop(emp)) ⊢ (zsPre c k : sProp 𝕄) := by
  unfold zsPre zsIdle opened
  split
  · next h => rw [show k.val / 2 = 0 by omega]
  · exact BI.Entails.refl _
theorem p_start (k : Fin 8) :
    iprop(ownAny c (outM (own₀ c) k).view ∗ if k.val < 2 then iprop(ownAny c (pM (sl k)).view ∗ semVal (dc c (oyS (sl k))) 0) else iprop(emp)) ⊢ pSt A B c 0 0 k := by
  unfold pSt pIdle
  rw [if_pos (Nat.zero_le _)]
theorem oz_start (k : Fin 8) :
    iprop(ownAny c (outM (oth c) k).view ∗ if k.val < 2 then iprop(ownAny c (zfM (sl k)).view ∗ semVal (dc c (ozS (sl k))) 0) else iprop(emp)) ⊢ ozSt A B c 0 k := by
  unfold ozSt zfIdle
  rw [if_pos (Nat.zero_le _)]
theorem yr_start (k : Fin 8) :
    iprop(ownAny c (yrM k).view ∗ opened c (yrS k) ∗ cred (tallyAt (dc c (yrS k)) () NR))
      ⊢ (iprop((ownAny c (yrM k).view ∗ reached ER (dc c (yrS k)) 0) ∗ yrSt c 0 k) : sProp 𝕄) := by
  unfold yrSt opened
  rw [if_pos (Nat.zero_le _)]
  iintro ⟨H, ⟨Ha, Hr⟩, Hc⟩
  isplitl [H Hr]
  · isplitl [H] <;> iassumption
  isplitl [Ha] <;> iassumption
theorem zr_start (k : Fin 8) :
    iprop(ownAny c (zrM k).view ∗ opened c (zrS k) ∗ cred (tallyAt (dc c (zrS k)) () NR))
      ⊢ (iprop((ownAny c (zrM k).view ∗ reached ER (dc c (zrS k)) 0) ∗ zrSt c 0 k) : sProp 𝕄) := by
  unfold zrSt opened
  rw [if_pos (Nat.zero_le _)]
  iintro ⟨H, ⟨Ha, Hr⟩, Hc⟩
  isplitl [H Hr]
  · isplitl [H] <;> iassumption
  isplitl [Ha] <;> iassumption

/-- Two families over the same chunks, as one. -/
theorem pair {I : Type} [Fintype I] {Φ Ψ X : I → sProp 𝕄} (h : ∀ i, iprop(Φ i ∗ Ψ i) ⊢ X i) :
    iprop(bigSep Finset.univ Φ ∗ bigSep Finset.univ Ψ) ⊢ bigSep Finset.univ X := by
  rw [← bigSep_sep']
  exact bigSep_mono fun i _ => h i
/-- And one as two. -/
theorem unpair {I : Type} [Fintype I] {Φ Ψ X : I → sProp 𝕄} (h : ∀ i, X i ⊢ iprop(Φ i ∗ Ψ i)) :
    bigSep Finset.univ X ⊢ iprop(bigSep Finset.univ Φ ∗ bigSep Finset.univ Ψ) := by
  rw [← bigSep_sep']
  exact bigSep_mono fun i _ => h i
/-- A family over the slots joined with another, as the first two chunks'. -/
theorem pairSlots (Φ Ψ : Fin 2 → sProp 𝕄) :
    iprop(bigSep Finset.univ Φ ∗ bigSep Finset.univ Ψ)
      ⊢ bigSep Finset.univ fun k : Fin 8 => if k.val < 2 then iprop(Φ (sl k) ∗ Ψ (sl k)) else iprop(emp) := by
  rw [← bigSep_sep', first2]

set_option maxHeartbeats 2000000 in
/-- The launch's hand-over makes the state the body starts from. -/
theorem enter :
    iprop(Scratch c ∗ Operands A B c ∗ (∃ f : Buf (Elt F) ((c : Thread nD τ).loc main_v12), (c : Thread nD τ).loc main_v12 ↦{fullShare} f)
        ∗ Ghost A B c K ∗ levAts L lv ∗ Cells c ∗ ∃ W, owes (c : Thread nD τ) (O₀ c) W)
      ⊢ iprop(Ictx A B K ∗ levAts L lv ∗ Start1 A B c ∗ Start2 c ∗ Rest A B c) := by
  unfold Operands Ghost Toks Creds Cells Start1 Start2 Rest
  rw [sems_sc (opened c)]
  iintro ⟨HS, ⟨HA, HB⟩, ⟨%f, Ho⟩, ⟨#HI, ⟨Hry, Hrz⟩, Hat, ⟨⟨Hty, Htz⟩, HTy, HTz⟩, HcB, Hcy, Hcz⟩, #Hlv, ⟨Hdy, Hw, ⟨Hys, Hyr, Hzs, Hzr⟩, Hoy, Hoz⟩, HO⟩
  ihave HS := (slots_of_scratch c) $$ HS
  unfold Slots
  icases HS with ⟨H0, H1, H2, H3, H4, H5, H6, H7⟩
  ihave HA := (whole_intro c main_v10 (A c)) $$ HA
  ihave HB := (w_cut B c) $$ HB
  ihave Ho := (out_cut c f) $$ Ho
  icases Ho with ⟨Ho0, Ho1⟩
  ihave Hw := (pairSlots (fun s => ownAny c (wM s).view) (fun s => semVal (dc c (wS s)) 0)) $$ [H1 Hw]
  · isplitl [H1] <;> iassumption
  ihave Hw := (pair (w_start B c)) $$ [HB Hw]
  · isplitl [HB] <;> iassumption
  ihave Hp := (pairSlots (fun s => ownAny c (pM s).view) (fun s => semVal (dc c (oyS s)) 0)) $$ [H2 Hoy]
  · isplitl [H2] <;> iassumption
  ihave Hp := (pair (p_start A B c)) $$ [Ho0 Hp]
  · isplitl [Ho0] <;> iassumption
  ihave Hz := (pairSlots (fun s => ownAny c (zfM s).view) (fun s => semVal (dc c (ozS s)) 0)) $$ [H7 Hoz]
  · isplitl [H7] <;> iassumption
  ihave Hz := (pair (oz_start A B c)) $$ [Ho1 Hz]
  · isplitl [Ho1] <;> iassumption
  ihave Hys := (pairSlots (fun s => ownAny c (ysM s).view) (fun s => opened c (ysS s))) $$ [H3 Hys]
  · isplitl [H3] <;> iassumption
  ihave Hys := (pair (ys_start c)) $$ [HTy Hys]
  · isplitl [HTy] <;> iassumption
  ihave Hzs := (pairSlots (fun s => ownAny c (zsM s).view) (fun s => opened c (zsS s))) $$ [H5 Hzs]
  · isplitl [H5] <;> iassumption
  ihave Hzs := (pair (zs_start c)) $$ [HTz Hzs]
  · isplitl [HTz] <;> iassumption
  ihave Hyr := (pair fun _ => BI.Entails.refl _) $$ [Hyr Hcy]
  · isplitl [Hyr] <;> iassumption
  ihave Hyr := (pair (yr_start c)) $$ [H4 Hyr]
  · isplitl [H4] <;> iassumption
  ihave Hyr := (unpair fun _ => BI.Entails.refl _) $$ Hyr
  icases Hyr with ⟨Hy0, Hyr⟩
  ihave Hzr := (pair fun _ => BI.Entails.refl _) $$ [Hzr Hcz]
  · isplitl [Hzr] <;> iassumption
  ihave Hzr := (pair (zr_start c)) $$ [H6 Hzr]
  · isplitl [H6] <;> iassumption
  ihave Hzr := (unpair fun _ => BI.Entails.refl _) $$ Hzr
  icases Hzr with ⟨Hz0, Hzr⟩
  isplitr; · iexact HI
  isplitr; · iexact Hlv
  isplitl [HA H0 Hdy Hw Hy0 Hty Hry HO]
  · isplitl [HA]; · iexact HA
    isplitl [H0]; · iexact H0
    isplitl [Hdy]; · iexact Hdy
    isplitl [Hw]; · iexact Hw
    isplitl [Hy0]; · unfold yPay; iexact Hy0
    isplitl [Hty]; · iexact Hty
    isplitl [Hry]; · iexact Hry
    iexact HO
  isplitl [Hz0 Htz Hrz Hat HcB]
  · isplitl [Hz0]; · unfold zPay; iexact Hz0
    isplitl [Htz]; · iexact Htz
    isplitl [Hrz]; · iexact Hrz
    isplitl [Hat]; · iexact Hat
    iexact HcB
  isplitl [Hp]; · iexact Hp
  isplitl [Hys]; · iexact Hys
  isplitl [Hyr]; · iexact Hyr
  isplitl [Hzs]; · iexact Hzs
  isplitl [Hzr]; · iexact Hzr
  iexact Hz

/-! ## What the body gives back -/

theorem w_end (k : Fin 8) :
    wSt B c 8 k ⊢ iprop(own c (wsrcM k).view (Wc B c k) ∗ if k.val < 6 then iprop(emp) else iprop(ownAny c (wM (sl k)).view ∗ semVal (dc c (wS (sl k))) 0)) := by
  unfold wSt wIdle
  rw [if_pos k.isLt]
theorem p_end (k : Fin 8) :
    pEnd A B c k ⊢ iprop(own c (outM (own₀ c) k).view (Qv A B c k)
      ∗ if k.val < 6 then iprop(emp) else iprop(ownAny c (pM (sl k)).view ∗ semVal (dc c (oyS (sl k))) 0)) := by
  unfold pEnd pIdle
  split
  · iintro H
    isplitl [H]; · iexact H
    iempintro
  · exact BI.Entails.refl _
theorem oz_end (k : Fin 8) :
    ozEnd A B c k ⊢ iprop(own c (outM (oth c) k).view (Zf A B c k)
      ∗ if k.val < 6 then iprop(emp) else iprop(ownAny c (zfM (sl k)).view ∗ semVal (dc c (ozS (sl k))) 0)) := by
  unfold ozEnd zfIdle
  split
  · iintro H
    isplitl [H]; · iexact H
    iempintro
  · exact BI.Entails.refl _

theorem ys_end :
    bigSep Finset.univ (ysEnd c) ⊢ (bigSep Finset.univ fun k : Fin 8 => if k.val < 6 then iprop(emp) else iprop(ownAny c (ysM (sl k)).view ∗ semVal (dc c (ysS (sl k))) 0) : sProp 𝕄) := BI.Entails.refl _
theorem zs_end :
    bigSep Finset.univ (zsEnd c) ⊢ (bigSep Finset.univ fun k : Fin 8 => if k.val < 6 then iprop(emp) else iprop(ownAny c (zsM (sl k)).view ∗ semVal (dc c (zsS (sl k))) 0) : sProp 𝕄) := BI.Entails.refl _
theorem yr_end (k : Fin 8) : yrEnd c k ⊢ (iprop(ownAny c (yrM k).view ∗ semVal (dc c (yrS k)) 0) : sProp 𝕄) := BI.Entails.refl _
theorem zr_end (k : Fin 8) : zrEnd c k ⊢ (iprop(ownAny c (zrM k).view ∗ semVal (dc c (zrS k)) 0) : sProp 𝕄) := BI.Entails.refl _

/-- A family over the last two chunks, as two over the slots. -/
theorem unpairSlots (Φ Ψ : Fin 2 → sProp 𝕄) :
    (bigSep Finset.univ fun k : Fin 8 => if k.val < 6 then iprop(emp) else iprop(Φ (sl k) ∗ Ψ (sl k)))
      ⊢ iprop(bigSep Finset.univ Φ ∗ bigSep Finset.univ Ψ) := by
  rw [← bigSep_sep', last2 fun s => iprop(Φ s ∗ Ψ s)]

set_option maxHeartbeats 2000000 in
theorem leave :
    End A B c ⊢ iprop(Scratch c ∗ Operands A B c ∗ ((c : Thread nD τ).loc main_v12 ↦{fullShare} outV A B c)
      ∗ (bigSep Finset.univ fun s : DmaSem sig => semVal (dc c s) 0) ∗ semVal (barCell c) 0
      ∗ ∃ W, owes (c : Thread nD τ) (0 : CellTallies nD τ sig Unit) W) := by
  rw [sems_all fun s => (semVal (dc c s) 0 : sProp 𝕄), sems_sc fun s => (semVal (dc c s) 0 : sProp 𝕄)]
  unfold End Operands
  iintro ⟨HA, Hbar, H0, Hdy, Hw, Hp, Hys, Hyr, Hzs, Hzr, Hz, HO⟩
  ihave Hw := (unpair (w_end B c)) $$ Hw
  icases Hw with ⟨HB, Hw⟩
  ihave Hw := (unpairSlots (fun s => ownAny c (wM s).view) (fun s => semVal (dc c (wS s)) 0)) $$ Hw
  icases Hw with ⟨H1, Hw⟩
  ihave Hp := (unpair (p_end A B c)) $$ Hp
  icases Hp with ⟨Ho0, Hp⟩
  ihave Hp := (unpairSlots (fun s => ownAny c (pM s).view) (fun s => semVal (dc c (oyS s)) 0)) $$ Hp
  icases Hp with ⟨H2, Hoy⟩
  ihave Hz := (unpair (oz_end A B c)) $$ Hz
  icases Hz with ⟨Ho1, Hz⟩
  ihave Hz := (unpairSlots (fun s => ownAny c (zfM s).view) (fun s => semVal (dc c (ozS s)) 0)) $$ Hz
  icases Hz with ⟨H7, Hoz⟩
  ihave Hys := (ys_end c) $$ Hys
  ihave Hys := (unpairSlots (fun s => ownAny c (ysM s).view) (fun s => semVal (dc c (ysS s)) 0)) $$ Hys
  icases Hys with ⟨H3, Hys⟩
  ihave Hzs := (zs_end c) $$ Hzs
  ihave Hzs := (unpairSlots (fun s => ownAny c (zsM s).view) (fun s => semVal (dc c (zsS s)) 0)) $$ Hzs
  icases Hzs with ⟨H5, Hzs⟩
  ihave Hyr := (unpair (yr_end c)) $$ Hyr
  icases Hyr with ⟨H4, Hyr⟩
  ihave Hzr := (unpair (zr_end c)) $$ Hzr
  icases Hzr with ⟨H6, Hzr⟩
  isplitl [H0 H1 H2 H3 H4 H5 H6 H7]
  · iapply (scratch_of_slots c)
    unfold Slots
    isplitl [H0]; · iapply (own_any c dyM.view _) $$ H0
    isplitl [H1]; · iexact H1
    isplitl [H2]; · iexact H2
    isplitl [H3]; · iexact H3
    isplitl [H4]; · iexact H4
    isplitl [H5]; · iexact H5
    isplitl [H6]; · iexact H6
    iexact H7
  isplitl [HA HB]
  · isplitl [HA]; · iapply (whole_elim c main_v10 (A c)) $$ HA
    iapply (w_paste B c) $$ HB
  isplitl [Ho0 Ho1]
  · iapply (out_paste A B c)
    isplitl [Ho0] <;> iassumption
  isplitl [Hdy Hw Hys Hyr Hzs Hzr Hoy Hoz]
  · isplitl [Hdy]; · iexact Hdy
    isplitl [Hw]; · iexact Hw
    isplitl [Hys Hyr Hzs Hzr]
    · isplitl [Hys]; · iexact Hys
      isplitl [Hyr]; · iexact Hyr
      isplitl [Hzs]; · iexact Hzs
      iexact Hzr
    isplitl [Hoy]; · iexact Hoy
    iexact Hoz
  isplitl [Hbar]; · iexact Hbar
  iexact HO

end Ends

end Cert.Proof

end
-- ==== Proof.Launch.lean ====
/-
  The launch: the ghost state of the protocol made and dealt to the devices, the kernel as a region of @main, and the
  run of the whole program: it ends, the arguments unchanged, every counter at zero, every device's result the blocks
  named by `outV`.
-/
module

public import proofs.«01_k».proof.Proof.Ends
public import proofs.«01_k».proof.Proof.Gen.KernelIdeal.Regions
public import Idealize.ShloMosaic.Lib.Pipeline.RegionTalk

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The kernel's operands, and the buffers after it -/

/-- Each device's rounded half of its rows of dy, as the host part leaves it; -/
def opA (c : Dev nD) : Vec F S1024x8192 .bf16 := V1 m c main_v10
/-- and its rounded w. -/
def opB (c : Dev nD) : Vec F S2048x8192 .bf16 := V1 m c main_v11

/-- A device's buffers at the end. -/
def VE (c : Dev nD) : Valuation τ sig (Elt F) := Function.update (V1 m c) main_v12 (outV (opA m) (opB m) c)

theorem VE_of (c : Dev nD) (r : Ref sig .tc) (h : r ≠ main_v12) : VE m c r = V1 m c r :=
  Function.update_of_ne (StableHlo.devRef_ne_of_ne h) _ _
theorem VE_out (c : Dev nD) : VE m c main_v12 = outV (opA m) (opB m) c := Function.update_self _ _ _

/-- The buffers the kernel reads and writes. -/
def Hs : Finset (DevRef τ sig) := {Proc.devRef .tc main_v10, Proc.devRef .tc main_v11, Proc.devRef .tc main_v12}

theorem Hs_sub : Hs ⊆ Pipeline.ucRefs τ sig := fun b hb => by
  unfold Hs at hb
  simp only [Finset.mem_insert, Finset.mem_singleton] at hb
  rcases hb with rfl | rfl | rfl <;> exact Finset.mem_filter.mpr ⟨StableHlo.devRef_mem_tcRefs _, by decide⟩

theorem VE_rest (c : Dev nD) : ∀ b ∈ Pipeline.ucRefs τ sig \ Hs, VE m c b = V1 m c b := fun b hb =>
  Function.update_of_ne (fun e => (Finset.mem_sdiff.mp hb).2 (by subst e; decide)) _ _

theorem held_Hs (c : Dev nD) (W : Valuation τ sig (Elt F)) : (StableHlo.held (c : Thread nD τ) Hs W : sProp 𝕄)
    = iprop(((c : Thread nD τ).loc main_v10 ↦{fullShare} W main_v10) ∗ ((c : Thread nD τ).loc main_v11 ↦{fullShare} W main_v11)
      ∗ ((c : Thread nD τ).loc main_v12 ↦{fullShare} W main_v12)) := by
  unfold StableHlo.held
  rw [bigSep_eq_bigSepL_of_eq [Proc.devRef .tc main_v10, Proc.devRef .tc main_v11, Proc.devRef .tc main_v12] (by decide) (by decide)]
  rfl

/-! ## The kernel's region -/

abbrev osem (s : DmaSem sig) : SemLoc sig := .dma s

def Tk (c : Dev nD) : sProp 𝕄 :=
  iprop((∃ K, Ghost (opA m) (opB m) c K) ∗ bigSep Finset.univ fun i => openTok ER (dc c (scS i)))
def Xk (c : Dev nD) : sProp 𝕄 := iprop((∃ K, Ghost (opA m) (opB m) c K) ∗ levAts L lv ∗ Cells c)
def Yk (c : Dev nD) : sProp 𝕄 := semVal (barCell c) 0

def datK (c : Dev nD) : Dat τ (Elt F) Unit ℕ UU ℕ cfg0 c where
  A w := w.elim0
  after w := w.elim0
  Φ t := if t.val = 0
    then iprop(Scratch c ∗ (∃ r, prngReg c r) ∗ StableHlo.held (c : Thread nD τ) Hs (V1 m c) ∗ Xk m c)
    else iprop(Scratch c ∗ (∃ r, prngReg c r) ∗ StableHlo.held (c : Thread nD τ) Hs (VE m c) ∗ Pipeline.ownSems0 osem c ∗ Yk c)
  q w := w.elim0
  owed t := if t.val = 0 then O₀ c else 0

def pdats : (p : Fin 1) → (c : Dev nD) → Dat τ (Elt F) Unit ℕ UU ℕ (Pipeline.pin (pcfgs (F := F)) adm p) c := fun _ => datK m

theorem owed_zero (c : Dev nD) : (pdats (F := F) m 0 c).owed 0 = O₀ c := by
  show (if ((0 : Fin (cfg0.N + 1)).val = 0) then O₀ c else 0) = O₀ c; exact if_pos rfl
theorem owed_first (c : Dev nD) : (datK (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem noWindows {M : Type} [URA M] (Φ : Fin 0 → sProp M) : bigSep Finset.univ Φ = (BI.emp : sProp M) :=
  bigSep_univ_eq_bigSepL [] (by decide) (by decide) Φ

theorem owes_in (c : Dev nD) (t : Fin (cfg0.N + 1)) (D : CellTallies nD τ sig Unit) (h : (datK m c).owed t = D) :
    iprop(∃ W, owes (c : Thread nD τ) D W) ⊢ ((datK m c).owesAt () t : sProp 𝕄) := by
  unfold Dat.owesAt Pipeline.owesWithin Dat.bound
  rw [h, show (datK m c).recorded t = Set.univ from rfl]
  iintro ⟨%W, HO⟩; iexists W
  isplitr; · ipureintro; exact fun _ _ => Or.inl trivial
  iexact HO
theorem owes_out (c : Dev nD) (t : Fin (cfg0.N + 1)) (D : CellTallies nD τ sig Unit) (h : (datK m c).owed t = D) :
    ((datK m c).owesAt () t : sProp 𝕄) ⊢ iprop(∃ W, owes (c : Thread nD τ) D W) := by
  unfold Dat.owesAt Pipeline.owesWithin
  rw [h]
  iintro ⟨%W, -, HO⟩; iexists W; iexact HO

theorem ownSems_eq (c : Dev nD) : (Pipeline.ownSems0 osem c : sProp 𝕄) = bigSep Finset.univ fun s : DmaSem sig => semVal (dc c s) 0 := rfl

/-- The body's obligation: the run. -/
theorem bodyK (c : Dev nD) : BodyObligation (datK (F := F) m c) defs₀ 𝒱₀ () Set.univ := fun t => by
  obtain rfl := fin_N0 t
  rw [noWindows, noWindows]
  rw [show (datK m c).Φ t0_0.castSucc = iprop(Scratch c ∗ (∃ r, prngReg c r) ∗ StableHlo.held (c : Thread nD τ) Hs (V1 m c) ∗ Xk m c) from rfl,
    show (datK m c).Φ t0_0.succ = iprop(Scratch c ∗ (∃ r, prngReg c r) ∗ StableHlo.held (c : Thread nD τ) Hs (VE m c)
      ∗ Pipeline.ownSems0 osem c ∗ Yk c) from rfl,
    held_Hs, held_Hs, ownSems_eq, VE_of m c main_v10 (by decide), VE_of m c main_v11 (by decide), VE_out]
  unfold Xk Yk
  iintro ⟨⟨HS, Hp, ⟨HA, HB, Ho⟩, ⟨%K, HG⟩, Hlv, HC⟩, HO, -⟩
  ihave HO := (owes_out m c _ (O₀ c) (owed_first m c)) $$ HO
  ihave H := (enter (opA m) (opB m) c K) $$ [HS HA HB Ho HG Hlv HC HO]
  · isplitl [HS]; · iexact HS
    isplitl [HA HB]
    · unfold Operands
      isplitl [HA]; · iexact HA
      iexact HB
    isplitl [Ho]; · iexists _; iexact Ho
    isplitl [HG]; · iexact HG
    isplitl [Hlv]; · iexact Hlv
    isplitl [HC]; · iexact HC
    iexact HO
  iapply (wp_wand _ _ _ (Q := fun _ => End (opA m) (opB m) c)) $$ [H]
  · iapply (run (opA m) (opB m) c K) $$ H
  iintro %r HE
  ihave HE := (leave (opA m) (opB m) c) $$ HE
  unfold Operands
  icases HE with ⟨HS, ⟨HA, HB⟩, Ho, Hs, Hb, HO⟩
  isplitr [HO]
  · isplitl [HS]; · iexact HS
    isplitl [Hp]; · iexact Hp
    isplitl [HA HB Ho]
    · isplitl [HA]; · iexact HA
      isplitl [HB]; · iexact HB
      iexact Ho
    isplitl [Hs]; · iexact Hs
    iexact Hb
  isplitl [HO]; · iapply (owes_in m c t0_0.succ 0 (owed_last m c)) $$ HO
  iempintro

/-! ## The region: the scoped cells opened at its entry -/

theorem open_one (A : Dev nD → Vec F S1024x8192 .bf16) (B : Dev nD → Vec F S2048x8192 .bf16) (K : GSem nD τ sig → ℕ) (c : Dev nD) (i : Fin 20) :
    iprop(Ictx A B K ∗ (openTok ER (dc c (scS i)) ∗ semVal (dc c (scS i)) 0)) ⊢ (iprop(|={Set.univ}=> opened c (scS i)) : sProp 𝕄) := by
  iintro ⟨HI, Ho, Hv⟩
  ihave HI := (Ictx_get A B K (mem_sc c (scS i) (by show 3 ≤ i.val + 3; omega) (by have := i.isLt; show i.val + 3 < 23; omega))) $$ HI
  iapply (Rounds.cell_open ER (Rd A B) (g := dc c (scS i)) (Set.mem_univ (K (dc c (scS i))))) $$ [HI Ho Hv]
  isplitl [HI]; · iexact HI
  isplitl [Ho] <;> iassumption

theorem open_all (A : Dev nD → Vec F S1024x8192 .bf16) (B : Dev nD → Vec F S2048x8192 .bf16) (K : GSem nD τ sig → ℕ) (c : Dev nD) :
    iprop(Ictx A B K ∗ bigSep Finset.univ fun i : Fin 20 => iprop(openTok ER (dc c (scS i)) ∗ semVal (dc c (scS i)) 0))
      ⊢ (|={Set.univ}=> bigSep Finset.univ fun i : Fin 20 => opened c (scS i) : sProp 𝕄) :=
  (bigSep_with_persistent fun i _ => open_one A B K c i).trans (bigSep_fupd _ _)

theorem openK (c : Dev nD) : iprop(Tk m c ∗ Pipeline.ownSems0 osem c ∗ levAts L lv) ⊢ (|={Set.univ}=> Xk m c : sProp 𝕄) := by
  rw [ownSems_eq, sems_all]
  unfold Tk Xk Cells Ghost
  iintro ⟨⟨⟨%K, #HI, Hr, Ha, Ht, Hc⟩, Hop⟩, ⟨Hd, Hw, Hs, Hy, Hz⟩, Hlv⟩
  ihave H := (Entails.of_eq (bigSep_sep' (M := 𝕄) (s := Finset.univ) (Φ := fun i : Fin 20 => openTok ER (dc c (scS i))) (Ψ := fun i => semVal (dc c (scS i)) 0)).symm) $$ [Hop Hs]
  · isplitl [Hop] <;> iassumption
  imod (open_all (opA m) (opB m) K c) $$ [H] with Hs
  · isplitr; · iexact HI
    iexact H
  imodintro
  isplitl [Hr Ha Ht Hc]
  · iexists K
    isplitr; · iexact HI
    isplitl [Hr]; · iexact Hr
    isplitl [Ha]; · iexact Ha
    isplitl [Ht] <;> iassumption
  isplitl [Hlv]; · iexact Hlv
  isplitl [Hd]; · iexact Hd
  isplitl [Hw]; · iexact Hw
  isplitl [Hs]; · iexact Hs
  isplitl [Hy] <;> iassumption

theorem kitK : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem O₀_pos (c : Dev nD) {g : GSem nD τ sig} {u : Unit} (h : 0 < O₀ c g u) : u ∈ L g ∧ (0 : ℕ) < lv g u := by
  unfold O₀ at h
  have hbar (d : Dev nD) (h : 0 < (tallyAt (barCell d) () 1 : CellTallies nD τ sig Unit) g u) : u ∈ L g ∧ (0 : ℕ) < lv g u := by
    rw [tallyAt_apply] at h
    split at h
    · next hg =>
      rw [hg.1, L_tc]
      exact ⟨Finset.mem_singleton_self _, by show 0 < rLv (role _); rw [role_bar]; decide⟩
    · exact absurd h (Nat.lt_irrefl 0)
  rw [Pi.add_apply, Finsupp.add_apply, Pi.add_apply, Finsupp.add_apply] at h
  rcases Nat.add_pos_iff_pos_or_pos.mp h with h | h
  · rcases Nat.add_pos_iff_pos_or_pos.mp h with h | h
    · obtain ⟨k, -, rfl⟩ | ⟨k, -, rfl⟩ := O_mem c h
      · rw [L_tc]
        exact ⟨Finset.mem_singleton_self _, by show 0 < rLv (role _); rw [role_yr]; show 0 < 2 * k.val + 2; omega⟩
      · rw [L_tc]
        exact ⟨Finset.mem_singleton_self _, by show 0 < rLv (role _); rw [role_zr]; show 0 < 2 * k.val + 3; omega⟩
    · exact hbar _ h
  · exact hbar _ h

theorem cutK (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact O₀_pos c h
  · exact absurd h (Nat.lt_irrefl 0)

theorem inK (c : Dev nD) : iprop(Pipeline.scopedRest (Pipeline.pin (pcfgs (F := F)) adm 0).spec c ∗ (∃ r, prngReg c r)
      ∗ StableHlo.held (c.tc : Thread nD τ) Hs (V1 m c) ∗ Xk m c) ⊢ (pdats m 0 c).Φ 0 := by
  rw [show (pdats m 0 c).Φ 0 = iprop(Scratch c ∗ (∃ r, prngReg c r) ∗ StableHlo.held (c : Thread nD τ) Hs (V1 m c) ∗ Xk m c) from rfl,
    show Pipeline.scopedRest (Pipeline.pin (pcfgs (F := F)) adm 0).spec c = Scratch c from scopedRest0_eq c]
theorem outK (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (VE m c) ∗ Pipeline.ownSems0 osem c ∗ Yk c) := by
  rw [show (pdats m 0 c).Φ (Fin.last _) = iprop(Scratch c ∗ (∃ r, prngReg c r) ∗ StableHlo.held (c : Thread nD τ) Hs (VE m c)
      ∗ Pipeline.ownSems0 osem c ∗ Yk c) from rfl,
    show Pipeline.scopedRest (Pipeline.pin (pcfgs (F := F)) adm 0).spec c = Scratch c from scopedRest0_eq c]

theorem ownSems0K : Pipeline.OwnSemFacts spec0 osem := by decide
theorem ownSemsK : Pipeline.OwnSemFacts (pcfgs (F := F) 0).spec osem := by
  rw [show (pcfgs (F := F) 0).spec = spec0 from funext fun w => w.elim0]
  exact ownSems0K

set_option backward.isDefEq.respectTransparency.types false in
/-- The kernel as a region. -/
def regK : Pipeline.RegionSeg (pcfgs (F := F)) adm (pdats m) () defs₀ 𝒱₀ L lv 0 :=
  Pipeline.RegionSeg.ofTalk (pcfgs (F := F)) adm (pdats m) () defs₀ 𝒱₀ L lv 0 osem ownSemsK
    Hs (Pipeline.ucRefs τ sig) Hs_sub kitK rfl (fun c => (bodyK m c).loose)
    (fun _ => 0) O₀ (fun c => (owed_zero m c).trans (zero_add _).symm) (owed_last m) (fun _ => rfl) (fun _ w => w.elim0)
    (V1 m) (VE m) (VE_rest m) (Tk m) Yk (Xk m) Yk (openK m) (inK m) (outK m)
    (fun c => by iintro H; imodintro; iexact H)
    (fun _ => 0)
    ⟨fun _ w => w.elim0, fun _ w => w.elim0, fun c t g i h => cutK m c t g i h⟩
    (fun _ => iprop(emp))
    (fun _ w => w.elim0) (fun _ w => w.elim0)

theorem held_arr (c : Dev nD) (W : Valuation τ sig (Elt F)) :
    (StableHlo.held (c.tc : Thread nD τ) (Pipeline.arrRefs (τ := τ) (pcfgs (F := F) 0).spec) W : sProp 𝕄) = BI.emp := by
  have e : Pipeline.arrRefs (τ := τ) (pcfgs (F := F) 0).spec = ∅ := by
    unfold Pipeline.arrRefs; rw [Finset.map_eq_empty, Finset.image_eq_empty, Finset.univ_eq_empty]
  rw [e]; unfold StableHlo.held; rw [bigSep_empty]

/-- What rides beside a device's buffers to the kernel. -/
def Ride (c : Dev nD) : sProp 𝕄 := iprop(Tk m c ∗ (∃ r, prngReg c r) ∗ ∃ W, owes (c : Thread nD τ) (O₀ c) W)

set_option backward.isDefEq.respectTransparency.types false in
theorem regK_pre (c : Dev nD) : iprop(StableHlo.held (c : Thread nD τ) (Pipeline.ucRefs τ sig) (V1 m c) ∗ Ride m c) ⊢ (regK m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (Pipeline.ucRefs τ sig) (V1 m c) ∗ emp) ∗ Tk m c ∗ ∃ Wd, owes (c : Thread nD τ) (0 + O₀ c) Wd)
  rw [held_arr, zero_add]
  unfold Ride
  iintro ⟨Hh, HT, Hp, HO⟩
  isplitr; · iempintro
  isplitl [Hp]; · iexact Hp
  isplitl [Hh]
  · isplitl [Hh]; · iexact Hh
    iempintro
  isplitl [HT] <;> iassumption

set_option backward.isDefEq.respectTransparency.types false in
theorem regK_post (c : Dev nD) : (regK m).post c
    ⊢ iprop((StableHlo.held (c : Thread nD τ) (Pipeline.ucRefs τ sig) (VE m c) ∗ semVal (barCell c) 0)
      ∗ ∃ W, owes (c : Thread nD τ) (0 : CellTallies nD τ sig Unit) W) := by
  show iprop(StableHlo.held (c.tc : Thread nD τ) (Pipeline.arrRefs (τ := τ) (pcfgs (F := F) 0).spec) (VE m c) ∗ (∃ r, prngReg c r)
    ∗ (StableHlo.held (c.tc : Thread nD τ) (Pipeline.ucRefs τ sig) (VE m c) ∗ emp) ∗ Yk c ∗ ∃ Wd, owes (c : Thread nD τ) (0 : CellTallies nD τ sig Unit) Wd) ⊢ _
  rw [held_arr]
  unfold Yk
  iintro ⟨-, -, ⟨Hh, -⟩, Hb, HO⟩
  isplitr [HO]
  · isplitl [Hh] <;> iassumption
  iexact HO

end Cert.Proof

end
-- ==== Proof.Deal.lean ====
/-
  The dealing at launch: every duty's token handed to the device that pays it, and the launch's credits counted.
-/
module

public import proofs.«01_k».proof.Proof.Launch

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## The tokens -/

/-- The duties of one device's cells: the two of its barrier, and four families over the chunks. -/
abbrev Duty := Bool ⊕ Fin 4 × Fin 8

def dutyOf : Duty → SemLoc sig × ℕ × Bool
  | .inl b => (.reg barS, 0, b)
  | .inr (0, k) => (.dma (ysS (sl k)), k.val / 2, false)
  | .inr (1, k) => (.dma (yrS k), 0, false)
  | .inr (2, k) => (.dma (zsS (sl k)), k.val / 2, false)
  | .inr (3, k) => (.dma (zrS k), 0, false)

theorem dutyOf_inj : Function.Injective dutyOf := by decide +kernel

def tokEmb : Dev nD × Duty ↪ GSem nD τ sig × ℕ × Bool :=
  ⟨fun p => (((p.1 : Thread nD τ), (dutyOf p.2).1), (dutyOf p.2).2.1, (dutyOf p.2).2.2), fun p q h =>
    Prod.ext (congrArg (fun t : GSem nD τ sig × ℕ × Bool => t.1.1.1) h)
      (dutyOf_inj (Prod.ext (congrArg (fun t : GSem nD τ sig × ℕ × Bool => t.1.2) h)
        (congrArg (fun t : GSem nD τ sig × ℕ × Bool => t.2) h)))⟩
def allToks : Finset (GSem nD τ sig × ℕ × Bool) := Finset.univ.map tokEmb

theorem fam4 {M : Type} [URA M] (Φ : Fin 4 → sProp M) : bigSep Finset.univ Φ = iprop((Φ 0 ∗ Φ 1) ∗ Φ 2 ∗ Φ 3) := by
  rw [bigSep_univ_eq_bigSepL [0, 1, 2, 3] (by decide) (by decide)]
  show iprop(Φ 0 ∗ Φ 1 ∗ Φ 2 ∗ Φ 3) = _
  exact BI.equiv_iff.mp ⟨BI.sep_assoc', BI.sep_assoc⟩
theorem famB {M : Type} [URA M] (Φ : Bool → sProp M) : bigSep Finset.univ Φ = iprop(Φ false ∗ Φ true) := by
  rw [bigSep_univ_eq_bigSepL [false, true] (by decide) (by decide)]
  rfl

/-- The tokens of the duties at one device's own cells. -/
def OwnToks (c : Dev nD) : sProp 𝕄 :=
  iprop((dutyTok ER (barCell c) 0 false ∗ dutyTok ER (barCell c) 0 true)
    ∗ ((bigSep Finset.univ fun k : Fin 8 => dutyTok ER (dc c (ysS (sl k))) (k.val / 2) false) ∗ bigSep Finset.univ fun k : Fin 8 => dutyTok ER (dc c (yrS k)) 0 false)
    ∗ (bigSep Finset.univ fun k : Fin 8 => dutyTok ER (dc c (zsS (sl k))) (k.val / 2) false) ∗ bigSep Finset.univ fun k : Fin 8 => dutyTok ER (dc c (zrS k)) 0 false)

theorem allToks_eq : bigSep allToks (fun x => (dutyTok ER x.1 x.2.1 x.2.2 : sProp 𝕄)) = bigSep Finset.univ fun c : Dev nD => OwnToks c := by
  unfold allToks
  rw [bigSep_map, bigSep_univ_prod]
  refine bigSep_congr fun c _ => ?_
  rw [bigSep_univ_sum, famB, bigSep_univ_prod, fam4]
  rfl

theorem Toks_eq (c : Dev nD) : (Toks c : sProp 𝕄) =
  iprop((dutyTok ER (barCell (yN c)) 0 false ∗ dutyTok ER (barCell (zN c)) 0 true)
    ∗ ((bigSep Finset.univ fun k : Fin 8 => dutyTok ER (dc c (ysS (sl k))) (k.val / 2) false) ∗ bigSep Finset.univ fun k : Fin 8 => dutyTok ER (dc (yN c) (yrS k)) 0 false)
    ∗ (bigSep Finset.univ fun k : Fin 8 => dutyTok ER (dc c (zsS (sl k))) (k.val / 2) false) ∗ bigSep Finset.univ fun k : Fin 8 => dutyTok ER (dc (zN c) (zrS k)) 0 false) := by
  unfold Toks
  rw [bigSep_sep', bigSep_sep']

def yE : Dev nD ≃ Dev nD := ⟨yN, yN, yN_yN, yN_yN⟩
def zE : Dev nD ≃ Dev nD := ⟨zN, zN, zN_zN, zN_zN⟩

/-- Each token of a landing or of a barrier signal handed to the partner who pays it. -/
theorem toks_around : (bigSep Finset.univ fun c : Dev nD => (OwnToks c : sProp 𝕄)) ⊢ bigSep Finset.univ fun c : Dev nD => Toks c := by
  rw [bigSep_congr (s := Finset.univ) (Φ := fun c : Dev nD => (Toks c : sProp 𝕄)) fun c _ => Toks_eq c]
  unfold OwnToks
  rw [bigSep_sep', bigSep_sep', bigSep_sep', bigSep_sep', bigSep_sep',
    bigSep_univ_equiv yE (fun c : Dev nD => (dutyTok ER (barCell c) 0 false : sProp 𝕄)),
    bigSep_univ_equiv zE (fun c : Dev nD => (dutyTok ER (barCell c) 0 true : sProp 𝕄)),
    bigSep_univ_equiv yE (fun c : Dev nD => (bigSep Finset.univ fun k : Fin 8 => dutyTok ER (dc c (yrS k)) 0 false : sProp 𝕄)),
    bigSep_univ_equiv zE (fun c : Dev nD => (bigSep Finset.univ fun k : Fin 8 => dutyTok ER (dc c (zrS k)) 0 false : sProp 𝕄)),
    bigSep_sep', bigSep_sep', bigSep_sep', bigSep_sep', bigSep_sep']
  exact BI.Entails.refl _

/-! ## The credits -/

theorem tally_at (a b : Dev nD) (s t : SemLoc sig) (n : ℕ) :
    (tallyAt ((a : Thread nD τ), s) () n : CellTallies nD τ sig Unit) ((b : Thread nD τ), t) () = if a = b ∧ s = t then n else 0 := by
  rw [tallyAt_apply]
  refine if_congr ⟨fun h => ?_, fun h => ?_⟩ rfl rfl
  · exact ⟨(congrArg (fun g : GSem nD τ sig => g.1.1) h.1).symm, (congrArg Prod.snd h.1).symm⟩
  · rw [h.1, h.2]; exact ⟨rfl, rfl⟩

theorem O₀_at (d c : Dev nD) (t : SemLoc sig) : O₀ d ((c : Thread nD τ), t) ()
    = (∑ k : Fin 8, if yN d = c ∧ SemLoc.dma (yrS k) = t then NR else 0) + (∑ k : Fin 8, if zN d = c ∧ SemLoc.dma (zrS k) = t then NR else 0)
      + (if zN d = c ∧ SemLoc.reg barS = t then 1 else 0) + if yN d = c ∧ SemLoc.reg barS = t then 1 else 0 := by
  unfold O₀ O
  simp only [Nat.zero_le, if_true, Pi.add_apply, Finsupp.add_apply, Finset.sum_apply, Finsupp.finset_sum_apply, tally_at]

theorem sum_none {n : ℕ} (f : Fin n → Prop) [DecidablePred f] (v : ℕ) (h : ∀ k, ¬ f k) : (∑ k : Fin n, if f k then v else 0) = 0 :=
  Finset.sum_eq_zero fun k _ => if_neg (h k)

theorem yr_ne_zr (k j : Fin 8) : SemLoc.dma (sig := sig) (yrS k) ≠ .dma (zrS j) := fun h => by
  have := congrArg role h; rw [role_yr, role_zr] at this; injection this
theorem owed_bar (d c : Dev nD) : O₀ d (barCell c) () = (if d = zN c then 1 else 0) + if d = yN c then 1 else 0 := by
  rw [O₀_at, sum_none _ _ (fun k h => by injection h.2), sum_none _ _ (fun k h => by injection h.2), Nat.add_zero, Nat.zero_add]
  congr 1 <;> refine if_congr ⟨fun h => ?_, fun h => ?_⟩ rfl rfl
  · rw [← h.1, zN_zN]
  · exact ⟨by rw [h, zN_zN], rfl⟩
  · rw [← h.1, yN_yN]
  · exact ⟨by rw [h, yN_yN], rfl⟩
theorem owed_yr (d c : Dev nD) (k : Fin 8) : O₀ d (dc c (yrS k)) () = if d = yN c then NR else 0 := by
  rw [O₀_at, sum_none (fun j => zN d = c ∧ SemLoc.dma (zrS j) = _) _ (fun j h => yr_ne_zr k j h.2.symm),
    if_neg (fun h => by injection h.2), if_neg (fun h => by injection h.2), Finset.sum_eq_single k]
  · refine if_congr ⟨fun h => ?_, fun h => ?_⟩ rfl rfl
    · rw [← h.1, yN_yN]
    · exact ⟨by rw [h, yN_yN], rfl⟩
  · intro j _ hj
    exact if_neg fun h => hj (by have := congrArg role h.2; rw [role_yr, role_yr] at this; injection this)
  · exact fun h => absurd (Finset.mem_univ _) h
theorem owed_zr (d c : Dev nD) (k : Fin 8) : O₀ d (dc c (zrS k)) () = if d = zN c then NR else 0 := by
  rw [O₀_at, sum_none (fun j => yN d = c ∧ SemLoc.dma (yrS j) = _) _ (fun j h => yr_ne_zr j k h.2),
    if_neg (fun h => by injection h.2), if_neg (fun h => by injection h.2), Finset.sum_eq_single k]
  · rw [Nat.zero_add]
    refine if_congr ⟨fun h => ?_, fun h => ?_⟩ rfl rfl
    · rw [← h.1, zN_zN]
    · exact ⟨by rw [h, zN_zN], rfl⟩
  · intro j _ hj
    exact if_neg fun h => hj (by have := congrArg role h.2; rw [role_zr, role_zr] at this; injection this)
  · exact fun h => absurd (Finset.mem_univ _) h

/-- The launch's credit at a cell is the sum of what the devices owe there. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 2 : CellTallies nD τ sig Unit) :=
  launch_at _ _ (by
    rw [Finset.sum_congr rfl fun d _ => owed_bar d c, Finset.sum_add_distrib, Finset.sum_ite_eq', Finset.sum_ite_eq', if_pos (Finset.mem_univ _), if_pos (Finset.mem_univ _)])
theorem launch_yr (c : Dev nD) (k : Fin 8) :
    tallyOn (dc c (yrS k)) (launchCredit (Pipeline.owing O₀) 0 (dc c (yrS k))) = (tallyAt (dc c (yrS k)) () NR : CellTallies nD τ sig Unit) :=
  launch_at _ _ (by rw [Finset.sum_congr rfl fun d _ => owed_yr d c k, Finset.sum_ite_eq', if_pos (Finset.mem_univ _)])
theorem launch_zr (c : Dev nD) (k : Fin 8) :
    tallyOn (dc c (zrS k)) (launchCredit (Pipeline.owing O₀) 0 (dc c (zrS k))) = (tallyAt (dc c (zrS k)) () NR : CellTallies nD τ sig Unit) :=
  launch_at _ _ (by rw [Finset.sum_congr rfl fun d _ => owed_zr d c k, Finset.sum_ite_eq', if_pos (Finset.mem_univ _)])

/-- The landing semaphores. -/
def landEmb : Fin 8 ⊕ Fin 8 ↪ SemLoc sig := ⟨fun | .inl k => .dma (yrS k) | .inr k => .dma (zrS k), by decide +kernel⟩
theorem land_sub : Finset.univ.map landEmb ⊆ Finset.univ.erase (SemLoc.reg barS) := fun x hx => by
  obtain ⟨k, -, rfl⟩ := Finset.mem_map.mp hx
  refine Finset.mem_erase.mpr ⟨?_, Finset.mem_univ _⟩
  rcases k with k | k <;> exact fun h => by injection h

theorem creds (c : Dev nD) : (Pipeline.launchCred O₀ c : sProp 𝕄) ⊢ Creds c := by
  unfold Pipeline.launchCred Creds
  rw [bigSep_univ_at _ (SemLoc.reg barS), launch_bar]
  refine sep_mono_right ((bigSep_subset land_sub).trans ?_)
  rw [bigSep_map, bigSep_univ_sum,
    ← bigSep_congr (s := Finset.univ) (fun k _ => congrArg (cred : CellTallies nD τ sig Unit → sProp 𝕄) (launch_yr c k)),
    ← bigSep_congr (s := Finset.univ) (fun k _ => congrArg (cred : CellTallies nD τ sig Unit → sProp 𝕄) (launch_zr c k))]
  exact BI.Entails.refl _

end Cert.Proof

end
-- ==== Proof.Main.lean ====
/-
  The run of the whole program, over any float values.
-/
module

public import proofs.«01_k».proof.Proof.Deal

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem cells_disjoint : Disjoint Sbar Ssc := by
  rw [Finset.disjoint_left]
  rintro g h₁ h₂
  obtain ⟨c, -, rfl⟩ := Finset.mem_map.mp h₁
  obtain ⟨p, -, h⟩ := Finset.mem_map.mp h₂
  have h' : (SemLoc.dma (scS p.2) : SemLoc sig) = .reg barS := congrArg (fun g : GSem nD τ sig => g.2) h
  injection h'

/-- The launch element. -/
def u₀ : UU :=
  (initOf (Pipeline.cells (Pipeline.pin (pcfgs (F := F)) adm) cellOf_inj) (Pipeline.launchToks (Pipeline.pin (pcfgs (F := F)) adm) cellOf_inj),
    (Emb.inl : Emb UT (UT × Counters)) (launchOf Sbar Ssc allToks))

/-- The protocol's launch element, kept with device 0 till it is dealt. -/
def Park (c : Dev nD) : sProp 𝕄 := if c = 0 then BI.own (ER (launchOf Sbar Ssc allToks)) else iprop(emp)
theorem parked : bigSep Finset.univ (Park (F := F)) = BI.own (ER (launchOf Sbar Ssc allToks)) := by
  rw [bigSep_univ_at _ (0 : Dev nD), bigSep_congr (s := Finset.univ.erase 0) (Ψ := fun _ => (BI.emp : sProp 𝕄))
    fun c hc => by unfold Park; rw [if_neg (Finset.ne_of_mem_erase hc)]; rfl, BI.bigSep_emp_const]
  unfold Park; rw [if_pos rfl]
  exact BI.equiv_iff.mp sep_emp

theorem unscopedSems_bar (c : Dev nD) : (unscopedSems0 c : sProp 𝕄) = semVal (barCell c) 0 := by
  unfold unscopedSems0
  rw [show (Finset.univ.filter fun sm : SemLoc sig => ¬ sm.isScoped .tc = true) = {SemLoc.reg barS} by decide, bigSep_singleton]

/-- The records every device may read: the invariants, under one naming, and round 0 of every barrier cell. -/
def Records (K : GSem nD τ sig → ℕ) : sProp 𝕄 := iprop(Ictx (opA m) (opB m) K ∗ bigSep Sbar fun g => reached ER g 0)
instance Records_persistent (K : GSem nD τ sig → ℕ) : BI.Persistent (Records m K) := by unfold Records; infer_instance

/-- What is device c's own of the launch. -/
def Mine (c : Dev nD) : sProp 𝕄 :=
  iprop(atPos ER (barCell c) 0 ∅ 0 ∗ (bigSep Finset.univ fun i => openTok ER (dc c (scS i))) ∗ Toks c)
def Rest0 (c : Dev nD) : sProp 𝕄 :=
  iprop(StableHlo.held (c : Thread nD τ) (Pipeline.ucRefs τ sig) (V0 m c) ∗ Creds c ∗ owes (c : Thread nD τ) (O₀ c) ∅ ∗ ∃ r, prngReg c r)
def First (c : Dev nD) : sProp 𝕄 := iprop(StableHlo.held (c : Thread nD τ) (Pipeline.ucRefs τ sig) (V0 m c) ∗ Ride m c)
def Last (c : Dev nD) : sProp 𝕄 := iprop(StableHlo.held (c : Thread nD τ) (Pipeline.ucRefs τ sig) (VE m c) ∗ semVal (barCell c) 0)

theorem bar_reached (c : Dev nD) : (bigSep Sbar fun g => (reached ER g 0 : sProp 𝕄)) ⊢ reached ER (barCell c) 0 :=
  bigSep_elim (Finset.mem_map_of_mem barEmb (Finset.mem_univ c))

theorem first_intro (K : GSem nD τ sig → ℕ) (c : Dev nD) : iprop(Records m K ∗ (Mine c ∗ Rest0 m c)) ⊢ First m c := by
  unfold Records Mine Rest0 First Ride Tk Ghost
  iintro ⟨⟨#HI, #HR⟩, ⟨Ha, Ho, Ht⟩, Hh, Hc, HO, Hp⟩
  isplitl [Hh]; · iexact Hh
  isplitl [Ha Ho Ht Hc]
  · isplitr [Ho]
    · iexists K
      isplitr; · iexact HI
      isplitr
      · isplitr
        · iapply (bar_reached (yN c)); iexact HR
        · iapply (bar_reached (zN c)); iexact HR
      isplitl [Ha]; · iexact Ha
      isplitl [Ht] <;> iassumption
    · iexact Ho
  isplitl [Hp]; · iexact Hp
  iexists ∅; iexact HO

theorem core_split (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ Park c)
      ⊢ (iprop(Rest0 m c ∗ (semVal (barCell c) 0 ∗ Park c)) : sProp 𝕄) := by
  rw [show unscopedBufs c (fun b => m ((c : Thread nD τ).loc b)) = StableHlo.held (c : Thread nD τ) (Pipeline.ucRefs τ sig) (V0 m c) from
      Pipeline.unscopedBufs_held c (V0 m c), unscopedSems_bar]
  unfold Rest0
  iintro ⟨Hh, Hb, HO, Hc, Hp, HG⟩
  ihave Hc := (creds (F := F) c) $$ Hc
  isplitl [Hh HO Hc Hp]
  · isplitl [Hh]; · iexact Hh
    isplitl [Hc]; · iexact Hc
    isplitl [HO]; · iexact HO
    iexists (ρ c); iexact Hp
  isplitl [Hb] <;> iassumption

theorem cores_split :
    (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ Park c))
      ⊢ (iprop((bigSep Finset.univ fun c => Rest0 m c) ∗ (bigSep Finset.univ fun c : Dev nD => semVal (barCell c) 0)
        ∗ bigSep Finset.univ fun c => Park c) : sProp 𝕄) := by
  rw [← bigSep_sep', ← bigSep_sep']
  exact bigSep_mono fun c _ => core_split m ρ c

theorem on_bars (Φ : GSem nD τ sig → sProp 𝕄) : bigSep Sbar Φ = bigSep Finset.univ fun c : Dev nD => Φ (barCell c) := by
  unfold Sbar; rw [bigSep_map]; rfl
theorem on_scs (Φ : GSem nD τ sig → sProp 𝕄) :
    bigSep Ssc Φ = bigSep Finset.univ fun c : Dev nD => bigSep Finset.univ fun i : Fin 20 => Φ (dc c (scS i)) := by
  unfold Ssc; rw [bigSep_map, bigSep_univ_prod]; rfl

theorem mine_all :
    iprop((bigSep Sbar fun g => atPos ER g 0 ∅ 0) ∗ (bigSep Ssc fun g => openTok ER g)
        ∗ (bigSep allToks fun x => dutyTok ER x.1 x.2.1 x.2.2) ∗ bigSep Finset.univ fun c => Rest0 m c)
      ⊢ (bigSep Finset.univ fun c : Dev nD => iprop(Mine c ∗ Rest0 m c) : sProp 𝕄) := by
  unfold Mine
  rw [on_bars, on_scs, allToks_eq, bigSep_sep', bigSep_sep', bigSep_sep']
  iintro ⟨Ha, Ho, Ht, HR⟩
  isplitr [HR]
  · isplitl [Ha]; · iexact Ha
    isplitl [Ho]; · iexact Ho
    iapply (toks_around (F := F)) $$ Ht
  iexact HR

/-- The launch deals everything out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Park c)) ∗ levAts L lv)
      ⊢ (|={Set.univ}=> bigSep Finset.univ (First m) : sProp 𝕄) := by
  iintro ⟨H, -⟩
  ihave H := (cores_split m ρ) $$ H
  icases H with ⟨HR, Hv, HG⟩
  ihave Hv := (Entails.of_eq (on_bars (F := F) (fun g => semVal g 0)).symm) $$ Hv
  ihave HG := (Entails.of_eq (parked (F := F))) $$ HG
  imod (Rounds.fund_launch ER (Rd (opA m) (opB m)) cells_disjoint (fun g _ h => h) allToks) $$ [Hv HG] with ⟨%κ, -, #Hinv, #Hr, Hat, Hop, Htok⟩
  · isplitl [Hv] <;> iassumption
  imodintro
  iapply (bigSep_with_persistent (R := Records m κ) (Φ := fun c => iprop(Mine c ∗ Rest0 m c)) fun c _ => first_intro m κ c)
  isplitr
  · unfold Records Ictx
    isplitr; · iexact Hinv
    iexact Hr
  iapply (mine_all m) $$ [Hat Hop Htok HR]
  isplitl [Hat]; · iexact Hat
  isplitl [Hop]; · iexact Hop
  isplitl [Htok] <;> iassumption

theorem L_of_ne (g : GSem nD τ sig) (h : g.1.2 ≠ .tc) : L g = ∅ := if_neg h

theorem unscoped_bar : ∀ sm : SemLoc sig, sm.isScoped .tc = false → sm = .reg barS := by decide

set_option backward.isDefEq.respectTransparency.types false in
/-- Every weakly fair execution from any memory with zero counters ends, with the arguments unchanged, every device's
    result as `outV` names it, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v12) = outV (opA m) (opB m) c) ∧ r.2.sem = fun _ => 0) :=
  Pipeline.θ_run_regions_kit_dev_sems (pcfgs (F := F)) adm (pdats m) () cellOf_inj EP defs₀ 𝒱₀ L lv m ρ main
    (fun c => Gen.segs m 𝒱₀ L lv (fun _ => Ride m) () (pdats m) (regK m) c)
    (fun c Q => by
      rewrite [main_chain c, Pipeline.Seg.run_eq_chain,
        show (Gen.segs m 𝒱₀ L lv (fun _ => Ride m) () (pdats m) (regK m) c).map Pipeline.Seg.prog = [
          StableHlo.seq (hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (O₀ := O₀) (hL := L_of_ne) (G := Park) (u₀ := u₀ (F := F))
    (hu₀ := by
      unfold u₀
      iintro Hu
      ihave H := (ownU_pair _ _) $$ Hu
      icases H with ⟨HP, HX⟩
      imodintro
      isplitl [HP]; · iexact HP
      rw [parked]; iexact HX)
    (T₀ := First m) (Tₙ := Last m)
    (hch := fun c => ⟨.rfl, regK_pre m c, regK_post m c⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v12) = outV (opA m) (opB m) c) ∧ s.sem (barCell c) = 0)
    (hfin := fun c s' => by
      unfold Last StableHlo.held
      iintro ⟨⟨Hh, Hb⟩, HSI⟩
      icombine HSI Hb gives %hb
      ihave Hr := (pointsTo_read_all (Pipeline.ucRefs τ sig) (fun b => ((c : Thread nD τ).1, b)) (VE m c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans
            ((VE_of m c main_arg0 (by decide)).trans (V1_of m c main_arg0 (by decide))),
          (h (Proc.devRef .tc main_arg1) (Finset.mem_filter.mpr ⟨StableHlo.devRef_mem_tcRefs main_arg1, by decide⟩)).trans
            ((VE_of m c main_arg1 (by decide)).trans (V1_of m c main_arg1 (by decide))),
          (h (Proc.devRef .tc main_v12) (Finset.mem_filter.mpr ⟨StableHlo.devRef_mem_tcRefs main_v12, by decide⟩)).trans (VE_out m c)⟩,
          by simpa using hb⟩
      iexact HSI)
    (hQ := fun s h hs => ⟨fun c => (h c).1, sem_eq_zero hs fun c sm hsm => by
        obtain rfl := unscoped_bar sm hsm
        exact (h c).2⟩)

end Cert.Proof

end
-- ==== Proof.Value.lean ====
/-
  The values over the extended reals. A device's partial product is half of the sum that the reference takes, the half
  its coordinate on the axis y names; its partner across y holds the other half, so the sum of the two is the
  reference's entry, whichever of the two makes it. Each device makes the entries of the row half its coordinate on the
  axis z names and receives the others from its partner across z, which holds the same columns of dy and of w.
-/
module

public import proofs.«01_k».proof.Defs
public import proofs.«01_k».proof.Proof.Main
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.WordCmp

@[expose] public section

set_option maxRecDepth 16384

noncomputable section

namespace Cert.Proof

open Idealize.ShloMosaic Idealize.ShloMosaic.TcCoe Idealize.ShloMosaic.ValueIdx
open Idealize.SL.Sem
open Cert.KernelIdeal Cert.KernelIdeal.Gen

/-! ## The products of the kernel -/

/-- An index of a matrix is the pair of its coordinates. -/
theorem ix2_of {n0 n1 : ℕ} (i : (⟨2, ![n0, n1]⟩ : Shape).Idx) (a : Fin n0) (b : Fin n1) (h0 : (i (0 : Fin 2)).val = a.val)
    (h1 : (i (1 : Fin 2)).val = b.val) : i = ix2 a b := by
  funext ax; apply Fin.ext
  match ax with
  | ⟨0, _⟩ => exact h0
  | ⟨1, _⟩ => exact h1

theorem pay1_apply (a : Vec Ideal S1024x8192 .bf16) (b : Vec Ideal S256x8192 .bf16) (r : Fin 1024) (j : Fin 256) :
    k0_pay1 (F := Ideal) a b (ix2 r j) = ∑ t : Fin 8192, (a (ix2 r t) * b (ix2 j t) : EReal) := by
  have h := Ideal.matmul_transposedRhs_apply (M := 1024) (K := 8192) (N := 256) (φ₁ := .bf16) (φ₂ := .bf16) none a b
    (constant (F := Ideal) S1024x256 .f32 0x00000000#32) r j
  refine Eq.trans (show _ = _ from h) ?_
  show Ideal.ofBits .f32 0x00000000#32 + _ = _
  rw [Ideal.ofBits_zero_f32, zero_add]

theorem pay2_eq (a : Vec Ideal S1024x8192 .bf16) (b : Vec Ideal S256x8192 .bf16) :
    k0_pay2 (F := Ideal) a b = k0_pay1 (F := Ideal) a b := shapeCast_self _ _
theorem pay3_eq (a : Vec Ideal S1024x8192 .bf16) (b : Vec Ideal S256x8192 .bf16) :
    (k0_pay3 (F := Ideal) a b : S1024x256.Idx → EReal) = k0_pay1 (F := Ideal) a b := shapeCast_self _ _
theorem pay4_apply (v : Vec Ideal S1024x256 .f32) (u : Vec Ideal S1024x256 .bf16) (i : S1024x256.Idx) :
    k0_pay4 (F := Ideal) v u i = (v i + u i : EReal) := congrFun (shapeCast_self (s := S1024x256) (fun i => (v i + u i : EReal)) _) i
theorem pay5_eq (v : Vec Ideal S1024x256 .f32) : (k0_pay5 (F := Ideal) v : S1024x256.Idx → EReal) = v := rfl
theorem pay6_eq (v : Vec Ideal S1024x256 .bf16) : (k0_pay6 (F := Ideal) v : S1024x256.Idx → EReal) = v :=
  shapeCast_self (s := S1024x256) _ _
theorem pay7_eq (v : FVec Ideal S1024x256 .bf16) : k0_pay7 (F := Ideal) v = v := shapeCast_self _ _

section
variable (A : Dev nD → Vec Ideal S1024x8192 .bf16) (B : Dev nD → Vec Ideal S2048x8192 .bf16)

theorem Wc_apply (c : Dev nD) (k : Fin 8) (j : Fin 256) (t : Fin 8192) (n : Fin 2048) (hn : n.val = 256 * k.val + j.val) :
    Wc (F := Ideal) B c k (ix2 j t) = B c (ix2 n t) := by
  show B c _ = _
  refine congrArg (B c) (ix2_of _ _ _ ?_ ?_)
  · show 256 * k.val + 1 * j.val = _
    omega
  · show 0 + 1 * t.val = _
    omega

/-- One entry of the sum of a device's partial product and its partner's across y. -/
theorem Qv_apply (c : Dev nD) (k : Fin 8) (r : Fin 1024) (j : Fin 256) (n : Fin 2048) (hn : n.val = 256 * k.val + j.val) :
    Qv (F := Ideal) A B c k (ix2 r j) = ((∑ t : Fin 8192, (A c (ix2 r t) * B c (ix2 n t) : EReal))
      + ∑ t : Fin 8192, (A (yN c) (ix2 r t) * B (yN c) (ix2 n t) : EReal) : EReal) := by
  have e : ∀ d : Dev nD, k0_pay1 (F := Ideal) (A d) (Wc B d k) (ix2 r j) = ∑ t : Fin 8192, (A d (ix2 r t) * B d (ix2 n t) : EReal) := fun d =>
    (pay1_apply _ _ r j).trans (Finset.sum_congr rfl fun t _ => by rw [Wc_apply B d k j t n hn])
  refine (pay4_apply _ _ _).trans ?_
  have e1 : Pv (F := Ideal) A B c k (ix2 r j) = k0_pay1 (F := Ideal) (A c) (Wc B c k) (ix2 r j) := congrFun (pay2_eq _ _) _
  have e2 : Ys (F := Ideal) A B (yN c) k (ix2 r j) = k0_pay1 (F := Ideal) (A (yN c)) (Wc B (yN c) k) (ix2 r j) := congrFun (pay3_eq _ _) _
  rw [e1, e2, e c, e (yN c)]

theorem Zf_eq (c : Dev nD) (k : Fin 8) : Zf (F := Ideal) A B c k = Qv (F := Ideal) A B (zN c) k :=
  (pay6_eq _).trans ((pay7_eq _).trans (pay5_eq _))

end

/-! ## The operands the host hands the kernel -/

section
variable (m : (ℓ : Loc nD τ sig) → Buf (Elt Ideal) ℓ)

theorem start_word : ∀ c : Dev nD,
    (select (cmpi .slt (muli (id (Host.remui (Host.divui (constantI S_ 32 (Dev.word c)) (constantI S_ 32 1#32)) (constantI S_ 32 2#32))) (constantI S_ 32 1024#32)) (constantI S_ 32 0#32))
      (addi (muli (id (Host.remui (Host.divui (constantI S_ 32 (Dev.word c)) (constantI S_ 32 1#32)) (constantI S_ 32 2#32))) (constantI S_ 32 1024#32)) (constantI S_ 32 2048#32))
      (muli (id (Host.remui (Host.divui (constantI S_ 32 (Dev.word c)) (constantI S_ 32 1#32)) (constantI S_ 32 2#32))) (constantI S_ 32 1024#32))
      (Shape.Idx.first h_S_) : BitVec 32).toInt = ((1024 * (c.val % 2) : ℕ) : Int) := by decide +kernel

theorem sliceFits (c : Dev nD) : S2048x8192.Slices ![1024 * (c.val % 2), 0] S1024x8192 := by revert c; decide

theorem opA_apply (c : Dev nD) (r : Fin 1024) (t : Fin 8192) (r' : Fin 2048) (hr : r'.val = 1024 * (c.val % 2) + r.val) :
    opA m c (ix2 r t) = m ((c : Thread nD τ).loc main_arg0) (ix2 r' t) := by
  have e : opA m c = (truncf .bf16 (Host.dynamicSlice S1024x8192 (m ((c : Thread nD τ).loc main_arg0)) ![((1024 * (c.val % 2) : ℕ) : Int), 0] sliceFits_S2048x8192_S1024x8192) bitsLt_bf16_f32 : FVec Ideal S1024x8192 .bf16) := by
    show StableHlo.after (hostOps0 c) (Gen.V0 m c) (Proc.devRef .tc main_v10) = _
    after_results
    refine congrArg (fun x => (truncf .bf16 (Host.dynamicSlice S1024x8192 (m ((c : Thread nD τ).loc main_arg0)) x sliceFits_S2048x8192_S1024x8192) bitsLt_bf16_f32 : FVec Ideal S1024x8192 .bf16)) (funext fun k => ?_)
    match k with
    | ⟨0, _⟩ => exact start_word c
    | ⟨1, _⟩ => rfl
  have e' := WordCmp.dynamicSlice_eq_extract S1024x8192 (m ((c : Thread nD τ).loc main_arg0) : S2048x8192.Idx → EReal)
    ![((1024 * (c.val % 2) : ℕ) : Int), 0] sliceFits_S2048x8192_S1024x8192 ![1024 * (c.val % 2), 0] (sliceFits c) (fun a => by
      match a with
      | ⟨0, _⟩ => rfl
      | ⟨1, _⟩ => rfl)
  refine (congrFun e (ix2 r t)).trans ((congrFun e' (ix2 r t)).trans ?_)
  refine congrArg (m ((c : Thread nD τ).loc main_arg0) : S2048x8192.Idx → EReal) (ix2_of _ _ _ ?_ ?_)
  · exact hr.symm
  · exact Nat.zero_add _

theorem opB_eq (c : Dev nD) : opB m c = (m ((c : Thread nD τ).loc main_arg1) : S2048x8192.Idx → EReal) := by
  show StableHlo.after (hostOps0 c) (Gen.V0 m c) (Proc.devRef .tc main_v11) = _
  after_results
  rfl

end

/-! ## The equation -/

/-- Block p of the columns, at its t-th column. -/
def col (p : Fin 2) (t : Fin 8192) : Fin 16384 := ⟨8192 * p.val + t.val, by have := p.isLt; have := t.isLt; omega⟩

/-- Device c's coordinate on the axis y. -/
def yC (c : Dev nD) : Fin 2 := ⟨c.val / 2 % 2, Nat.mod_lt _ (by decide)⟩

theorem block_apply (X : (⟨2, ![2048, 16384]⟩ : Shape).Idx → EReal) (c : Dev nD) (r : Fin 2048) (t : Fin 8192) :
    (Layout.blockN ⟨2, ![2048, 8192]⟩ ⟨2, ![2048, 16384]⟩ (Layout.meshBlock [2, 2, 2] ![[], [1]] c) X) (ix2 r t)
      = X (ix2 r (col (yC c) t)) := by
  refine congrArg X (ix2_of _ _ _ ?_ ?_)
  · show 0 * 2048 + r.val = r.val
    omega
  · have h : Layout.meshLin [2, 2, 2] c.val [1] = c.val / 2 % 2 := by revert c; decide
    show Layout.meshLin [2, 2, 2] c.val [1] * 8192 + t.val = 8192 * (c.val / 2 % 2) + t.val
    rw [h]; omega

/-- A sum over the columns is the sum of the two blocks' sums, -/
theorem sum_two (f : Fin 16384 → EReal) : ∑ s, f s = (∑ t, f (col 0 t)) + ∑ t, f (col 1 t) := by
  refine (Fin.sum_univ_add (a := 8192) (b := 8192) f).trans ?_
  refine congrArg₂ (· + ·) (Finset.sum_congr rfl fun t _ => congrArg f (Fin.ext ?_)) (Finset.sum_congr rfl fun t _ => congrArg f (Fin.ext ?_))
  · show t.val = 8192 * 0 + t.val
    omega
  · show 8192 + t.val = 8192 * 1 + t.val
    omega

/-- taken in the order of a device and its partner across y. -/
theorem sum_pair (f : Fin 16384 → EReal) (c : Dev nD) : (∑ t, f (col (yC c) t)) + (∑ t, f (col (yC (yN c)) t)) = ∑ s, f s := by
  have h : (yC c = 0 ∧ yC (yN c) = 1) ∨ (yC c = 1 ∧ yC (yN c) = 0) := by revert c; decide
  rcases h with ⟨h, h'⟩ | ⟨h, h'⟩
  · rw [h, h', sum_two]
  · rw [h, h', sum_two, add_comm]

/-- The entry of the product at row r and column n. -/
def entry (X W : (⟨2, ![2048, 16384]⟩ : Shape).Idx → EReal) (r n : Fin 2048) : EReal := ∑ s : Fin 16384, X (ix2 r s) * W (ix2 n s)

section
variable (m : (ℓ : Loc nD τ sig) → Buf (Elt Ideal) ℓ) (X W : (⟨2, ![2048, 16384]⟩ : Shape).Idx → EReal)
  (hX : ∀ c : Dev nD, m ((c.tc : Thread nD τ).loc main_arg0) = Layout.blockN ⟨2, ![2048, 8192]⟩ ⟨2, ![2048, 16384]⟩ (Layout.meshBlock [2, 2, 2] ![[], [1]] c) X)
  (hW : ∀ c : Dev nD, m ((c.tc : Thread nD τ).loc main_arg1) = Layout.blockN ⟨2, ![2048, 8192]⟩ ⟨2, ![2048, 16384]⟩ (Layout.meshBlock [2, 2, 2] ![[], [1]] c) W)
include hX hW

theorem term_apply (c : Dev nD) (r : Fin 1024) (r' n : Fin 2048) (hr : r'.val = 1024 * (c.val % 2) + r.val) (t : Fin 8192) :
    (opA m c (ix2 r t) * opB m c (ix2 n t) : EReal) = X (ix2 r' (col (yC c) t)) * W (ix2 n (col (yC c) t)) := by
  rw [opA_apply m c r t r' hr, congrFun (opB_eq m c) (ix2 n t), congrFun (hX c) (ix2 r' t), congrFun (hW c) (ix2 n t), block_apply, block_apply]

theorem Qv_entry (c : Dev nD) (k : Fin 8) (r : Fin 1024) (j : Fin 256) (r' n : Fin 2048)
    (hr : r'.val = 1024 * (c.val % 2) + r.val) (hn : n.val = 256 * k.val + j.val) :
    Qv (F := Ideal) (opA m) (opB m) c k (ix2 r j) = entry X W r' n := by
  have hy : ∀ c : Dev nD, (yN c).val % 2 = c.val % 2 := by decide
  rw [Qv_apply _ _ c k r j n hn, Finset.sum_congr rfl fun t _ => term_apply m X W hX hW c r r' n hr t,
    Finset.sum_congr rfl fun t _ => term_apply m X W hX hW (yN c) r r' n (hr.trans (by rw [hy c])) t]
  exact sum_pair (fun s => X (ix2 r' s) * W (ix2 n s)) c

/-- Every device's result is the whole product. -/
theorem outV_entry (c : Dev nD) (r n : Fin 2048) : outV (F := Ideal) (opA m) (opB m) c (ix2 r n) = entry X W r n := by
  have hr := r.isLt
  have hn := n.isLt
  have eb : inBlk (ix2 r n) = ix2 (⟨r.val % 1024, Nat.mod_lt _ (by decide)⟩ : Fin 1024) (⟨n.val % 256, Nat.mod_lt _ (by decide)⟩ : Fin 256) :=
    ix2_of _ _ _ rfl rfl
  have hk : n.val = 256 * (chunkOf (ix2 r n)).val + n.val % 256 := (Nat.div_add_mod n.val 256).symm
  unfold outV
  rw [eb]
  by_cases h : r.val / 1024 = c.val % 2
  · rw [if_pos (show ((ix2 r n) (0 : Fin 2)).val / 1024 = (own₀ c).val from h)]
    exact Qv_entry m X W hX hW c _ _ _ r n (by show r.val = 1024 * (c.val % 2) + r.val % 1024; omega) hk
  · rw [if_neg (show ¬ ((ix2 r n) (0 : Fin 2)).val / 1024 = (own₀ c).val from h), Zf_eq]
    have hz : (zN c).val % 2 = 1 - c.val % 2 := (by decide : ∀ c : Dev nD, (zN c).val % 2 = 1 - c.val % 2) c
    exact Qv_entry m X W hX hW (zN c) _ _ _ r n (by show r.val = 1024 * ((zN c).val % 2) + r.val % 1024; rw [hz]; omega) hk

end

/-! ## The reference -/

theorem ref_entry (X W : (⟨2, ![2048, 16384]⟩ : Shape).Idx → EReal) (r n : Fin 2048) :
    Host.dotGeneral (F := Ideal) (φ₁ := .f32) (φ₂ := .f32) Cert.ReferenceIdeal.dot_S2048x16384_S16384x2048_S2048x2048_1_0_0_1_n_n none X
      (transpose Cert.ReferenceIdeal.S16384x2048 [1, 0] W Cert.ReferenceIdeal.Facts₀.transposes_S2048x16384_S16384x2048_1_0) (ix2 r n) = entry X W r n := by
  refine (StackMember.dotGeneral_plain_apply (m := 2048) (k := 16384) (n := 2048) (φ₁ := .f32) (φ₂ := .f32) none X _ r n).trans ?_
  refine Finset.sum_congr rfl fun s _ => congrArg (X (ix2 r s) * ·) ?_
  exact congrArg W (ix2_of _ _ _ rfl rfl)

theorem algebraic : Cert.algebraic_KernelIdeal_ReferenceIdeal := by
  intro m g m' g' _ hm
  refine ⟨_, (θ_run Cert.KernelIdeal.defs _ _).mono (fun r h c => ?_) (run_main (F := Ideal) m g),
    (θ_run Cert.ReferenceIdeal.defs _ _).mono (fun r h => h 0) (Cert.ReferenceIdeal.Value.run (F := Ideal) m' g')⟩
  refine ⟨(h.1 c).2.2.trans (funext fun i => ?_), (h.1 c).1, (h.1 c).2.1⟩
  rw [ix2_of i (i (0 : Fin 2)) (i (1 : Fin 2)) rfl rfl]
  exact (outV_entry m _ _ (fun c => (hm c).1) (fun c => (hm c).2) c _ _).trans (ref_entry _ _ _ _).symm

end Cert.Proof

end
-- ==== Proof.lean ====
/-
  The certificate: the kernel's run, taken once over any float values, gives both of its frames; the reference's run
  gives its own; the equation of the values is in Proof/Value.lean.
-/
module

public import proofs.«01_k».proof.Defs
public import proofs.«01_k».proof.Proof.Main
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
